-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x1024 : Shape := ⟨3, ![32, 2048, 1024]⟩
abbrev S32x1024 : Shape := ⟨2, ![32, 1024]⟩
abbrev S1x1 : Shape := ⟨2, ![1, 1]⟩
abbrev S1x512x1024 : Shape := ⟨3, ![1, 512, 1024]⟩
abbrev S16x2x1024 : Shape := ⟨3, ![16, 2, 1024]⟩
abbrev S1x512 : Shape := ⟨2, ![1, 512]⟩
abbrev S1x512x1 : Shape := ⟨3, ![1, 512, 1]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S2x1024 : Shape := ⟨2, ![2, 1024]⟩
abbrev S1x2x1024 : Shape := ⟨3, ![1, 2, 1024]⟩
abbrev S1x32x1024 : Shape := ⟨3, ![1, 32, 1024]⟩
abbrev S_ : Shape := ⟨0, ![]⟩

abbrev nBuf : Space → Nat
  | .hbm => 4
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .i32⟩
  | .hbm, ⟨2, _⟩ => ⟨S1x1, .f32⟩
  | .hbm, ⟨3, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S32x1024, .i32⟩
  | .local _ .vmem, ⟨17, _⟩ => ⟨S1x1, .f32⟩
  | .local _ .vmem, ⟨18, _⟩ => ⟨S16x2x1024, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v127 : Index := Scalar.indexCast arg0
  let c0_60 : Index := 0#32
  let c0_61 : Index := 0#32
  ![v127.toNat, 0, 0]
def k0_cond9 (i : grid0.Coords) : BitVec 1 :=
  let arg0 : BitVec 32 := BitVec.ofNat 32 (i 0).val
  let c15_i32 : BitVec 32 := 15#32
  let v131 : BitVec 1 := Scalar.cmpi .eq arg0 c15_i32
  let v132 : BitVec 32 := Scalar.extui v131
  let c0_i32_62 : BitVec 32 := 0#32
  let v133 : BitVec 1 := Scalar.cmpi .ne v132 c0_i32_62
  v133

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let c0_i32 : BitVec 32 := 0#32
  let c0_i32_0 : BitVec 32 := 0#32
  ![v0.toNat, c1_i32.toNat, c0_i32.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let c0_i32 : BitVec 32 := 0#32
  let c0_i32_1 : BitVec 32 := 0#32
  ![v0.toNat, c2_i32_0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c3_i32 : BitVec 32 := 3#32
  let c0_i32 : BitVec 32 := 0#32
  let c0_i32_0 : BitVec 32 := 0#32
  ![v0.toNat, c3_i32.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c1_i32_0 : BitVec 32 := 1#32
  let c0_i32 : BitVec 32 := 0#32
  let c0_i32_1 : BitVec 32 := 0#32
  ![v1.toNat, c1_i32_0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let c0_i32 : BitVec 32 := 0#32
  let c0_i32_1 : BitVec 32 := 0#32
  ![v1.toNat, c2_i32_0.toNat, c0_i32.toNat]

def cc0_transform_7 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let c0_i32 : BitVec 32 := 0#32
  let c0_i32_0 : BitVec 32 := 0#32
  ![v1.toNat, c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x1024 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x2048x1024 : Shape := ⟨3, ![32, 2048, 1024]⟩
abbrev S32x1024 : Shape := ⟨2, ![32, 1024]⟩
abbrev S32x1023 : Shape := ⟨2, ![32, 1023]⟩
abbrev S_ : Shape := ⟨0, ![]⟩
abbrev S32x2048 : Shape := ⟨2, ![32, 2048]⟩
abbrev S32 : Shape := ⟨1, ![32]⟩
abbrev S32x1 : Shape := ⟨2, ![32, 1]⟩
abbrev S32x2048x1 : Shape := ⟨3, ![32, 2048, 1]⟩
abbrev S32x2048x2 : Shape := ⟨3, ![32, 2048, 2]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .i32⟩
  | .hbm, ⟨2, _⟩ => ⟨S32x1023, .i32⟩
  | .hbm, ⟨3, _⟩ => ⟨S_, .i32⟩
  | .hbm, ⟨4, _⟩ => ⟨S_, .i32⟩
  | .hbm, ⟨5, _⟩ => ⟨S32x2048x1024, .i32⟩
  | .hbm, ⟨6, _⟩ => ⟨S_, .f32⟩
  | .hbm, ⟨7, _⟩ => ⟨S_, .i32⟩
  | .hbm, ⟨8, _⟩ => ⟨S32x2048, .f32⟩
  | .hbm, ⟨9, _⟩ => ⟨S32x2048, .i32⟩
  | .hbm, ⟨10, _⟩ => ⟨S_, .i32⟩
  | .hbm, ⟨11, _⟩ => ⟨S32x1024, .i32⟩
  | .hbm, ⟨12, _⟩ => ⟨S32, .i32⟩
  | .hbm, ⟨13, _⟩ => ⟨S32x1, .i32⟩
  | .hbm, ⟨14, _⟩ => ⟨S_, .i32⟩
  | .hbm, ⟨15, _⟩ => ⟨S32x2048, .i32⟩
  | .hbm, ⟨16, _⟩ => ⟨S_, .i32⟩
  | .hbm, ⟨17, _⟩ => ⟨S32x1, .i32⟩
  | .hbm, ⟨18, _⟩ => ⟨S32x1, .i1⟩
  | .hbm, ⟨19, _⟩ => ⟨S_, .i32⟩
  | .hbm, ⟨20, _⟩ => ⟨S32x1, .i32⟩
  | .hbm, ⟨21, _⟩ => ⟨S32x1, .i32⟩
  | .hbm, ⟨22, _⟩ => ⟨S32x1, .i32⟩
  | .hbm, ⟨23, _⟩ => ⟨S_, .i32⟩
  | .hbm, ⟨24, _⟩ => ⟨S32x2048, .i32⟩
  | .hbm, ⟨25, _⟩ => ⟨S32x2048, .i1⟩
  | .hbm, ⟨26, _⟩ => ⟨S_, .i32⟩
  | .hbm, ⟨27, _⟩ => ⟨S32x2048, .i32⟩
  | .hbm, ⟨28, _⟩ => ⟨S32x2048, .i32⟩
  | .hbm, ⟨29, _⟩ => ⟨S32x2048, .i32⟩
  | .hbm, ⟨30, _⟩ => ⟨S32x2048, .i32⟩
  | .hbm, ⟨31, _⟩ => ⟨S32x2048x1, .i32⟩
  | .hbm, ⟨32, _⟩ => ⟨S32x2048x1, .i32⟩
  | .hbm, ⟨33, _⟩ => ⟨S32x2048x2, .i32⟩
  | .hbm, ⟨34, _⟩ => ⟨S32x1024, .i32⟩
  | .hbm, ⟨35, _⟩ => ⟨S32x1023, .i32⟩
  | .hbm, ⟨36, _⟩ => ⟨S32x1023, .i32⟩
  | .hbm, ⟨37, _⟩ => ⟨S32x1023, .i32⟩
  | .hbm, ⟨38, _⟩ => ⟨S_, .i32⟩
  | .hbm, ⟨39, _⟩ => ⟨S32x1023, .i32⟩
  | .hbm, ⟨40, _⟩ => ⟨S32x1023, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S32x2048, .i32⟩
  | .hbm, ⟨45, _⟩ => ⟨S32x2048, .i1⟩
  | .hbm, ⟨46, _⟩ => ⟨S32x2048, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_c_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.KernelIdeal.Body.lean ====
/- The kernel body of `KernelIdeal` run once, on any staging buffers: what it stores, at any float type. The body sums the
   counts of four blocks of one row of the batch, twice, stores the two rows of counts in its scratch array at the grid
   point's place, and at the last point computes the result from the whole scratch array and the labels. -/
module

public import proofs.«01_k».proof.Proof.Gen.KernelIdeal.Skeleton
public import proofs.«01_k».proof.Proof.Gen.KernelIdeal.Frame
public import Idealize.ShloMosaic.Lib.WritesUnit
public import Idealize.ShloMosaic.Lib.VecWindow
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.ValueIdx

variable {F : FTy → Type} [FloatOps F]

local notation "𝕄" => MT nD τ sig Unit (Elt F) ℕ (UR sig nD τ) ℕ

/-- The bit the body branches on for a block: whether the block's hits (entries equal to their row's maximum) number
    anything but 512, one for each row. -/
def tied (x : Vec F S1x512x1024 .f32) : BitVec 1 :=
  Scalar.cmpi .ne (Scalar.extui (Scalar.cmpi .ne (extractAt ![0, 0, 0] (k0_pay7 x) inpos_S1x1x1_p0_0_0) 512#32) : BitVec 32) 0#32

/-- The counts the body takes of one block: per column the hits, or, where a row has two hits, the first hits alone. -/
def blockCounts (x : Vec F S1x512x1024 .f32) : IVec S1x1024 32 :=
  if tied x = 1#1 then k0_pay8 x else k0_pay6 x

/-- The two rows of counts the body stores at a grid point, from its eight blocks. -/
def slab (x0 x1 x2 x3 x4 x5 x6 x7 : Vec F S1x512x1024 .f32) : IVec S1x2x1024 32 :=
  k0_pay3 (k0_pay22 (k0_pay13 (blockCounts x0) (blockCounts x1)) (blockCounts x2) (blockCounts x3))
    (k0_pay35 (blockCounts x4) (blockCounts x5) (blockCounts x6)) (blockCounts x7)

/-- A branch whose two sides return a value and then go on in the same way returns the chosen value and goes on. -/
theorem choice_bind {E : Type → Type} {α β : Type} (p : Prop) [Decidable p] (a b : α) (k : α → Prog E β) :
    (if p then ((pure a : Prog E α) >>= k) else ((pure b : Prog E α) >>= k)) = k (if p then a else b) := by
  split <;> rfl

variable (c : Dev nD) (i : grid0.Coords) (arg1 : Memref sig .tc .vmem S1x512x1024 .f32) (harg1 : arg1.IsWhole) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x512x1024 .f32) (harg7 : arg7.IsWhole) (arg8 : Memref sig .tc .vmem S1x512x1024 .f32) (harg8 : arg8.IsWhole) (arg9 : Memref sig .tc .vmem S32x1024 .i32) (harg9 : arg9.IsWhole) (arg10 : Memref sig .tc .vmem S1x1 .f32) (harg10 : arg10.IsWhole) (arg11 : Memref sig .tc .vmem S16x2x1024 .i32) (harg11 : arg11.IsWhole)
    (x0 x1 x2 x3 x4 x5 x6 x7 : Vec F S1x512x1024 .f32) (x8 : Vec F S32x1024 .i32)

/-- The body as a line of loads, one store of the eight blocks' counts, and the last point's branch. -/
theorem body_eq : cc0__precision_kernel (F := F) i arg1 harg1 arg2 harg2 arg3 harg3 arg4 harg4 arg5 harg5 arg6 harg6 arg7 harg7 arg8 harg8 arg9 harg9 arg10 harg10 arg11 harg11
    = (do
        let v0 ← Prog.lift (.load arg1 (Rect.unit (s := S1x512x1024) ![0, 0, 0] S1x512x1024.size inb_S1x512x1024_S1x512x1024_0_0_0).toLoadRect (View.loadsAt_vmem h_S1x512x1024))
        let v1 ← Prog.lift (.load arg2 (Rect.unit (s := S1x512x1024) ![0, 0, 0] S1x512x1024.size inb_S1x512x1024_S1x512x1024_0_0_0).toLoadRect (View.loadsAt_vmem h_S1x512x1024))
        let v2 ← Prog.lift (.load arg3 (Rect.unit (s := S1x512x1024) ![0, 0, 0] S1x512x1024.size inb_S1x512x1024_S1x512x1024_0_0_0).toLoadRect (View.loadsAt_vmem h_S1x512x1024))
        let v3 ← Prog.lift (.load arg4 (Rect.unit (s := S1x512x1024) ![0, 0, 0] S1x512x1024.size inb_S1x512x1024_S1x512x1024_0_0_0).toLoadRect (View.loadsAt_vmem h_S1x512x1024))
        let v4 ← Prog.lift (.load arg5 (Rect.unit (s := S1x512x1024) ![0, 0, 0] S1x512x1024.size inb_S1x512x1024_S1x512x1024_0_0_0).toLoadRect (View.loadsAt_vmem h_S1x512x1024))
        let v5 ← Prog.lift (.load arg6 (Rect.unit (s := S1x512x1024) ![0, 0, 0] S1x512x1024.size inb_S1x512x1024_S1x512x1024_0_0_0).toLoadRect (View.loadsAt_vmem h_S1x512x1024))
        let v6 ← Prog.lift (.load arg7 (Rect.unit (s := S1x512x1024) ![0, 0, 0] S1x512x1024.size inb_S1x512x1024_S1x512x1024_0_0_0).toLoadRect (View.loadsAt_vmem h_S1x512x1024))
        let v7 ← Prog.lift (.load arg8 (Rect.unit (s := S1x512x1024) ![0, 0, 0] S1x512x1024.size inb_S1x512x1024_S1x512x1024_0_0_0).toLoadRect (View.loadsAt_vmem h_S1x512x1024))
        let _w ← Prog.lift (.load arg11 (Rect.unit (s := S16x2x1024) (k0_off1 i) S1x2x1024.size (k0_off1_inb i)).toLoadRect (View.loadsAt_vmem h_S1x2x1024))
        Prog.lift (.store arg11 (Rect.unit (s := S16x2x1024) (k0_off1 i) S1x2x1024.size (k0_off1_inb i)) (slab v0 v1 v2 v3 v4 v5 v6 v7) Finset.univ (View.stores_vmem_bits_univ h_S1x2x1024 rfl) (.inl rfl))
        if h9 : k0_cond9 i = 1#1 then
          k0_part1_skel i arg1 harg1 arg2 harg2 arg3 harg3 arg4 harg4 arg5 harg5 arg6 harg6 arg7 harg7 arg8 harg8 arg9 harg9 arg10 harg10 arg11 harg11
        else pure ⟨⟩) := by
  rw [cc0__precision_kernel_eq_skeleton]; unfold cc0__precision_kernel_skel
  rw [k0_part1_eq_skeleton, k0_part2_eq_skeleton, k0_part3_eq_skeleton, k0_part4_eq_skeleton]
  unfold k0_part2_skel k0_part3_skel k0_part4_skel
  simp only [choice_bind]
  simp only [bind_assoc, pure_bind, bind_pure]
  rfl

/-- The scratch array after a point: the two rows of counts at the point's place, the rest as before. -/
def stored (i : grid0.Coords) (xs : Vec F S16x2x1024 .i32) (z : IVec S1x2x1024 32) : Vec F S16x2x1024 .i32 :=
  fun y => if (y 0).val = (i 0).val then z (ix3 0 (y 1) (y 2)) else xs y

/-- The place of a point's two rows in the scratch array: the point's number. -/
theorem place_eq (i : grid0.Coords) : k0_off1 i = ![(i 0).val, 0, 0] := by
  have h : (i 0).val < 16 := (i 0).isLt
  funext a
  fin_cases a
  · show (Scalar.indexCast (BitVec.ofNat 32 (i 0).val)).toNat = (i 0).val
    simp only [Scalar.indexCast]
    simp
    omega
  · rfl
  · rfl

/-- The two rows of counts depend on the blocks alone. -/
theorem slab_congr {y0 y1 y2 y3 y4 y5 y6 y7 x0 x1 x2 x3 x4 x5 x6 x7 : Vec F S1x512x1024 .f32}
    (h0 : y0 = x0) (h1 : y1 = x1) (h2 : y2 = x2) (h3 : y3 = x3) (h4 : y4 = x4) (h5 : y5 = x5) (h6 : y6 = x6) (h7 : y7 = x7) :
    slab y0 y1 y2 y3 y4 y5 y6 y7 = slab x0 x1 x2 x3 x4 x5 x6 x7 := by
  subst h0 h1 h2 h3 h4 h5 h6 h7; rfl

/-- Loading the whole of a whole buffer reads its contents. -/
theorem load_whole {s : Shape} {e : EltTy} {arg : Memref sig .tc .vmem s e} (h : arg.IsWhole) (x : s.Idx → Elt F e)
    {off : Fin s.rank → ℕ} (inb : ∀ a, off a + s.size a ≤ s.size a) :
    arg.view.readAt (Elt F) (Rect.unit off s.size inb).toLoadRect (h.unread x) = x :=
  (View.readAt_full _ _ _).trans (h.read_unread x)

omit [FloatOps F] in
/-- Reading the scratch array after the body's store. -/
theorem read_stored (i : grid0.Coords) {sp : Space} (v : View sig .tc sp S16x2x1024 .i32) (f : v.ty.Contents (Elt F)) (z : IVec S1x2x1024 32) :
    v.read (Elt F) (v.writes (Elt F) f [⟨Rect.unit (k0_off1 i) S1x2x1024.size (k0_off1_inb i), z⟩]) = stored i (v.read (Elt F) f) z := by
  funext y
  unfold stored
  by_cases hy : (y 0).val = (i 0).val
  · rw [if_pos hy]
    refine View.read_writes_cons_unit_of_mem v f (k0_off1_inb i) z [] y (ix3 0 (y 1) (y 2)) (place_eq i) fun a => ?_
    fin_cases a
    · show (y 0).val = (i 0).val + 0; omega
    · show (y 1).val = 0 + (y 1).val; omega
    · show (y 2).val = 0 + (y 2).val; omega
  · rw [if_neg hy]
    rw [View.read_writes_cons_unit_of_not_mem v f (k0_off1_inb i) z [] y (place_eq i) 0 (by
      show (y 0).val < (i 0).val ∨ (i 0).val + 1 ≤ (y 0).val; omega)]
    rfl

set_option maxHeartbeats 1000000 in
/-- At a point that is not the last the body leaves the result buffer alone and stores its two rows of counts. -/
theorem body_mid (hc : ¬ k0_cond9 i = 1#1) (xo : Vec F S1x1 .f32) (xs : Vec F S16x2x1024 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare (stored i xs (slab x0 x1 x2 x3 x4 x5 x6 x7))) -∗ K ⟨⟩))
      ⊢ wp frame (wpE (defs₀ (F := F)) Variants.none c none) E (cc0__precision_kernel i arg1 harg1 arg2 harg2 arg3 harg3 arg4 harg4 arg5 harg5 arg6 harg6 arg7 harg7 arg8 harg8 arg9 harg9 arg10 harg10 arg11 harg11) K := by
  rw [body_eq]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  iexists _; isplitr
  swap; · iexact H10
  ipureintro
  refine (read_stored i _ _ _).trans ?_
  rw [harg11.read_unread]
  exact congrArg (stored i xs) (slab_congr (load_whole harg1 _ _) (load_whole harg2 _ _) (load_whole harg3 _ _) (load_whole harg4 _ _) (load_whole harg5 _ _) (load_whole harg6 _ _) (load_whole harg7 _ _) (load_whole harg8 _ _))

set_option maxHeartbeats 1000000 in
/-- At the last point the body stores its two rows of counts and then the result of the whole scratch array and the labels. -/
theorem body_last (hc : k0_cond9 i = 1#1) (xo : Vec F S1x1 .f32) (xs : Vec F S16x2x1024 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay4 (stored i xs (slab x0 x1 x2 x3 x4 x5 x6 x7)) x8) ∗ owns (c : Thread nD τ) arg11 fullShare (stored i xs (slab x0 x1 x2 x3 x4 x5 x6 x7))) -∗ K ⟨⟩))
      ⊢ wp frame (wpE (defs₀ (F := F)) Variants.none c none) E (cc0__precision_kernel i arg1 harg1 arg2 harg2 arg3 harg3 arg4 harg4 arg5 harg5 arg6 harg6 arg7 harg7 arg8 harg8 arg9 harg9 arg10 harg10 arg11 harg11) K := by
  rw [body_eq]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    refine (View.read_writes_full _ _ _ _ _).trans ?_
    refine congrArg₂ k0_pay4 ?_ (load_whole harg9 _ _)
    unfold body_last.sl.v134
    refine (View.readAt_full _ _ _).trans ((read_stored i _ _ _).trans ?_)
    rw [harg11.read_unread]
    exact congrArg (stored i xs) (slab_congr (load_whole harg1 _ _) (load_whole harg2 _ _) (load_whole harg3 _ _) (load_whole harg4 _ _) (load_whole harg5 _ _) (load_whole harg6 _ _) (load_whole harg7 _ _) (load_whole harg8 _ _))
  iexists _; isplitr
  swap; · iexact H10
  ipureintro
  refine (read_stored i _ _ _).trans ?_
  rw [harg11.read_unread]
  exact congrArg (stored i xs) (slab_congr (load_whole harg1 _ _) (load_whole harg2 _ _) (load_whole harg3 _ _) (load_whole harg4 _ _) (load_whole harg5 _ _) (load_whole harg6 _ _) (load_whole harg7 _ _) (load_whole harg8 _ _))

end Cert.KernelIdeal.Hand

end
-- ==== Proof.KernelIdeal.Data.lean ====
/- The data of the launch of `KernelIdeal`: its one region over the grid of sixteen points, the scratch array followed from point to
   point, at any float type. After point `t` the first `t + 1` planes of the scratch array hold the counts of those points'
   blocks; the result buffer is written at the last point alone, from the whole scratch array. -/
module

public import proofs.«01_k».proof.Proof.KernelIdeal.Body
public import Idealize.ShloMosaic.Lib.Pipeline.FrameBody
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- A point's one coordinate is its number. -/
theorem coord_eq (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The body's last branch is taken at the last point only. -/
theorem last_iff (t : Fin cfg0.N) : k0_cond9 (grid0.coords t) = 1#1 ↔ t.val = 15 := by
  have ht : t.val < 16 := Nat.lt_of_lt_of_eq t.isLt N_0
  have e0 : (grid0.coords t 0).val = t.val := coord_eq t
  simp only [k0_cond9, e0]
  word_cmp

/-- The result window is idle where the last branch is not taken. -/
theorem idle_result : ∀ t : Fin cfg0.N, ¬k0_cond9 (grid0.coords t) = 1#1 → cfg0.idle 9 (grid0.coords t) = true := by decide +kernel
/-- It is not written back there. -/
theorem noFlush_result : ∀ t : Fin cfg0.N, ¬k0_cond9 (grid0.coords t) = 1#1 → (cfg0.win 9).flush t = false := by decide +kernel
/-- The result window is live where the last branch is taken. -/
theorem live_result : ∀ t : Fin cfg0.N, k0_cond9 (grid0.coords t) = 1#1 → cfg0.idle 9 (grid0.coords t) = false := by decide +kernel

/-! ## What the scratch array and the result hold -/

/-- The two rows of counts of point `t`'s blocks. -/
def slabAt (c : Dev nD) (t : Fin cfg0.N) : IVec S1x2x1024 32 :=
  slab (iblk m c 0 t) (iblk m c 1 t) (iblk m c 2 t) (iblk m c 3 t) (iblk m c 4 t) (iblk m c 5 t) (iblk m c 6 t) (iblk m c 7 t)

/-- The scratch array when every point has stored its rows. -/
def total (c : Dev nD) : Vec F S16x2x1024 .i32 :=
  fun y => slabAt m c ⟨(y 0).val, Nat.lt_of_lt_of_eq (y 0).isLt N_0.symm⟩ (ix3 0 (y 1) (y 2))

/-- The labels as the last point sees them, and the result it stores. -/
def lastPoint : Fin cfg0.N := ⟨15, by rw [show cfg0.N = 16 from N_0]; omega⟩

/-- The result: what the last point computes from the complete scratch array and the labels. -/
def result (c : Dev nD) : Vec F S1x1 .f32 := k0_pay4 (total m c) (iblk m c 8 lastPoint)

/-- The first `n` planes of a scratch array are complete. -/
def Holds (c : Dev nD) (n : ℕ) (xs : Vec F S16x2x1024 .i32) : Prop := ∀ y, (y 0).val < n → xs y = total m c y

/-- One more plane is complete after a point's store. -/
theorem Holds.step {c : Dev nD} {t : Fin cfg0.N} {xs : Vec F S16x2x1024 .i32} (h : Holds m c t.val xs) :
    Holds m c (t.val + 1) (stored (grid0.coords t) xs (slabAt m c t)) := by
  intro y hy
  unfold stored
  have e0 := coord_eq t
  by_cases hyt : (y 0).val = (grid0.coords t 0).val
  · rw [if_pos hyt]
    unfold total
    exact congrArg (fun u => slabAt m c u (ix3 0 (y 1) (y 2))) (Fin.ext (by show t.val = (y 0).val; omega))
  · rw [if_neg hyt]
    exact h y (by omega)

/-- After the last point's store the scratch array is complete. -/
theorem Holds.complete {c : Dev nD} {t : Fin cfg0.N} {xs : Vec F S16x2x1024 .i32} (h : Holds m c t.val xs) (ht : t.val = 15) :
    stored (grid0.coords t) xs (slabAt m c t) = total m c :=
  funext fun y => (Holds.step m h) y (by have h16 : (y 0).val < 16 := (y 0).isLt; omega)

/-! ## The proof data -/

/-- The scratch array as the body receives it. -/
abbrev scratch : Memref sig .tc .vmem S16x2x1024 .i32 := Memref.whole cc0_scratch0

/-- What is kept between points: the scratch array with its first `n` planes complete, and the generator register. -/
def kept (c : Dev nD) (n : ℕ) : sProp 𝕄 :=
  iprop((∃ d, iprop(⌜Holds m c n d⌝ ∗ owns (c : Thread nD τ) scratch fullShare d)) ∗ (∃ r, prngReg c r))

/-- What the region is handed: the scratch array at any contents, and the generator register. -/
theorem handed_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c
  Φ t := kept m c t.val
  q w := Pipeline.shareOf spec0 w
  owed _ := 0

/-- The proof data's arrays are those the region finds. -/
theorem A_eq (c : Dev nD) (w : Fin cfg0.W) : (dats m 0 c).A w = V m c (Pipeline.arrRef spec0 w) := by dsimp only [dats]

/-- The body leaves window 0's block in place. -/
theorem after_0 (c : Dev nD) (t : Fin cfg0.N) : (dats m 0 c).after 0 t = iblk m c 0 t := by dsimp only [dats]
/-- Window 0's staging buffer holds its block at every point. -/
theorem before_0 (c : Dev nD) (t : Fin cfg0.N) (d) : (dats m 0 c).before 0 t d = iblk m c 0 t :=
  before0_0_of m (dats m 0 c) (A_eq m c 0) (after_0 m c) t d
/-- Window 0 is handed back holding its block. -/
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (grid0.coords t) = false from rfl, after_0]
/-- The body leaves window 1's block in place. -/
theorem after_1 (c : Dev nD) (t : Fin cfg0.N) : (dats m 0 c).after 1 t = iblk m c 1 t := by dsimp only [dats]
/-- Window 1's staging buffer holds its block at every point. -/
theorem before_1 (c : Dev nD) (t : Fin cfg0.N) (d) : (dats m 0 c).before 1 t d = iblk m c 1 t :=
  before0_1_of m (dats m 0 c) (A_eq m c 1) (after_1 m c) t d
/-- Window 1 is handed back holding its block. -/
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (grid0.coords t) = false from rfl, after_1]
/-- The body leaves window 2's block in place. -/
theorem after_2 (c : Dev nD) (t : Fin cfg0.N) : (dats m 0 c).after 2 t = iblk m c 2 t := by dsimp only [dats]
/-- Window 2's staging buffer holds its block at every point. -/
theorem before_2 (c : Dev nD) (t : Fin cfg0.N) (d) : (dats m 0 c).before 2 t d = iblk m c 2 t :=
  before0_2_of m (dats m 0 c) (A_eq m c 2) (after_2 m c) t d
/-- Window 2 is handed back holding its block. -/
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (grid0.coords t) = false from rfl, after_2]
/-- The body leaves window 3's block in place. -/
theorem after_3 (c : Dev nD) (t : Fin cfg0.N) : (dats m 0 c).after 3 t = iblk m c 3 t := by dsimp only [dats]
/-- Window 3's staging buffer holds its block at every point. -/
theorem before_3 (c : Dev nD) (t : Fin cfg0.N) (d) : (dats m 0 c).before 3 t d = iblk m c 3 t :=
  before0_3_of m (dats m 0 c) (A_eq m c 3) (after_3 m c) t d
/-- Window 3 is handed back holding its block. -/
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (grid0.coords t) = false from rfl, after_3]
/-- The body leaves window 4's block in place. -/
theorem after_4 (c : Dev nD) (t : Fin cfg0.N) : (dats m 0 c).after 4 t = iblk m c 4 t := by dsimp only [dats]
/-- Window 4's staging buffer holds its block at every point. -/
theorem before_4 (c : Dev nD) (t : Fin cfg0.N) (d) : (dats m 0 c).before 4 t d = iblk m c 4 t :=
  before0_4_of m (dats m 0 c) (A_eq m c 4) (after_4 m c) t d
/-- Window 4 is handed back holding its block. -/
theorem leaves_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (grid0.coords t) = false from rfl, after_4]
/-- The body leaves window 5's block in place. -/
theorem after_5 (c : Dev nD) (t : Fin cfg0.N) : (dats m 0 c).after 5 t = iblk m c 5 t := by dsimp only [dats]
/-- Window 5's staging buffer holds its block at every point. -/
theorem before_5 (c : Dev nD) (t : Fin cfg0.N) (d) : (dats m 0 c).before 5 t d = iblk m c 5 t :=
  before0_5_of m (dats m 0 c) (A_eq m c 5) (after_5 m c) t d
/-- Window 5 is handed back holding its block. -/
theorem leaves_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (grid0.coords t) = false from rfl, after_5]
/-- The body leaves window 6's block in place. -/
theorem after_6 (c : Dev nD) (t : Fin cfg0.N) : (dats m 0 c).after 6 t = iblk m c 6 t := by dsimp only [dats]
/-- Window 6's staging buffer holds its block at every point. -/
theorem before_6 (c : Dev nD) (t : Fin cfg0.N) (d) : (dats m 0 c).before 6 t d = iblk m c 6 t :=
  before0_6_of m (dats m 0 c) (A_eq m c 6) (after_6 m c) t d
/-- Window 6 is handed back holding its block. -/
theorem leaves_6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (grid0.coords t) = false from rfl, after_6]
/-- The body leaves window 7's block in place. -/
theorem after_7 (c : Dev nD) (t : Fin cfg0.N) : (dats m 0 c).after 7 t = iblk m c 7 t := by dsimp only [dats]
/-- Window 7's staging buffer holds its block at every point. -/
theorem before_7 (c : Dev nD) (t : Fin cfg0.N) (d) : (dats m 0 c).before 7 t d = iblk m c 7 t :=
  before0_7_of m (dats m 0 c) (A_eq m c 7) (after_7 m c) t d
/-- Window 7 is handed back holding its block. -/
theorem leaves_7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (grid0.coords t) = false from rfl, after_7]
/-- The body leaves window 8's block in place. -/
theorem after_8 (c : Dev nD) (t : Fin cfg0.N) : (dats m 0 c).after 8 t = iblk m c 8 t := by dsimp only [dats]
/-- Window 8's staging buffer holds its block at every point. -/
theorem before_8 (c : Dev nD) (t : Fin cfg0.N) (d) : (dats m 0 c).before 8 t d = iblk m c 8 t :=
  before0_8_of m (dats m 0 c) (A_eq m c 8) (after_8 m c) t d
/-- Window 8 is handed back holding its block. -/
theorem leaves_8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (grid0.coords t) = false from rfl, after_8]
/-- The result window holds the result after the last point. -/
theorem after_9 (c : Dev nD) (t : Fin cfg0.N) : (dats m 0 c).after 9 t = result m c := by dsimp only [dats]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

end Cert.KernelIdeal.Hand

end
-- ==== Proof.KernelIdeal.Run.lean ====
/- The launch of `KernelIdeal`: the body at each point, and the run of the program, at any float type. -/
module

public import proofs.«01_k».proof.Proof.KernelIdeal.Data
public import Idealize.ShloMosaic.Lib.Pipeline.FrameBody
public import Idealize.ShloMosaic.Lib.Claim
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at the last point takes what it is called with to what it hands back. -/
theorem sound_last (c : Dev nD) (t : Fin cfg0.N) (h : t.val = 15) :
    bodyPre m c t ⊢ wp frame (wpE (defs₀ (F := F)) Variants.none c none) Set.univ (bodyAt0 t) (fun _ => bodyPost m c t) := by
  unfold bodyPre bodyPost bodyAt0
  rw [show (dats m 0 c).Φ t.castSucc = kept m c t.val from rfl, show (dats m 0 c).Φ t.succ = kept m c (t.val + 1) from rfl]
  rw [show (dats m 0 c).owesAt () t.succ = (dats m 0 c).owesAt () t.castSucc from rfl]
  rw [leaves_0, leaves_1, leaves_2, leaves_3, leaves_4, leaves_5, leaves_6, leaves_7, leaves_8]
  unfold kept
  rw [show (dats m 0 c).leavesExact 9 t = owns (c : Thread nD τ) (win0_9.stage (cfg0.slots t 9)) fullShare (result m c) from by
    unfold Dat.leavesExact; rw [live_result t ((last_iff t).mpr h), after_9]]
  iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5, before_6 m c t d6, before_7 m c t d7, before_8 m c t d8]
  iapply (body_last c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((last_iff t).mpr h) _ xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]
    · iexists _; isplitr
      swap; · iexact HS
      ipureintro; exact Holds.step m hxs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [show result m c = k0_pay4 (stored (grid0.coords t) xs (slabAt m c t)) (iblk m c 8 t) from by
    unfold result
    rw [Holds.complete m hxs h]
    exact congrArg (fun u => k0_pay4 (total m c) (iblk m c 8 u)) (Fin.ext h.symm)]
  iexact H9
set_option maxHeartbeats 1600000 in
/-- The body at any other point takes what it is called with to what it hands back. -/
theorem sound_mid (c : Dev nD) (t : Fin cfg0.N) (h : ¬ t.val = 15) :
    bodyPre m c t ⊢ wp frame (wpE (defs₀ (F := F)) Variants.none c none) Set.univ (bodyAt0 t) (fun _ => bodyPost m c t) := by
  unfold bodyPre bodyPost bodyAt0
  rw [show (dats m 0 c).Φ t.castSucc = kept m c t.val from rfl, show (dats m 0 c).Φ t.succ = kept m c (t.val + 1) from rfl]
  rw [show (dats m 0 c).owesAt () t.succ = (dats m 0 c).owesAt () t.castSucc from rfl]
  rw [leaves_0, leaves_1, leaves_2, leaves_3, leaves_4, leaves_5, leaves_6, leaves_7, leaves_8]
  unfold kept
  rw [Dat.leavesExact_idle (dats m 0 c) 9 t (idle_result t (fun h' => h ((last_iff t).mp h'))) (noFlush_result t (fun h' => h ((last_iff t).mp h')))]
  iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5, before_6 m c t d6, before_7 m c t d7, before_8 m c t d8]
  iapply (body_mid c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (fun h' => h ((last_iff t).mp h')) _ xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]
    · iexists _; isplitr
      swap; · iexact HS
      ipureintro; exact Holds.step m hxs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The body at any point takes what it is called with to what it hands back. -/
theorem body_sound (c : Dev nD) (t : Fin cfg0.N) :
    bodyPre m c t ⊢ wp frame (wpE (defs₀ (F := F)) Variants.none c none) Set.univ (bodyAt0 t) (fun _ => bodyPost m c t) := by
  by_cases h : t.val = 15
  · exact sound_last m c t h
  · exact sound_mid m c t h

/-- The body table's row at point `t` is the body there. -/
theorem row_eq (t : Fin cfg0.N) : defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-- What the region is handed is what is kept before the first point: no plane is complete. -/
theorem handed_in (c : Dev nD) : Pipeline.ΦA spec0 c ⊢ (dats m 0 c).Φ 0 := by
  rw [show (dats m 0 c).Φ 0 = kept m c 0 from rfl, handed_eq]
  unfold kept
  iintro ⟨⟨%d, HS⟩, Hg⟩
  isplitl [HS]
  · iexists d; isplitr
    · ipureintro; intro y hy; exact absurd hy (Nat.not_lt_zero _)
    iexact HS
  iexact Hg

/-- What is kept after the last point is handed back. -/
theorem handed_out (c : Dev nD) : (dats m 0 c).Φ (Fin.last cfg0.N) ⊢ Pipeline.ΦA spec0 c := by
  rw [show (dats m 0 c).Φ (Fin.last cfg0.N) = kept m c cfg0.N from rfl, handed_eq]
  unfold kept
  iintro ⟨⟨%d, -, HS⟩, Hg⟩
  isplitl [HS]
  · iexists d; iexact HS
  iexact Hg

/-! ## The run -/

set_option backward.isDefEq.respectTransparency.types false in
set_option maxHeartbeats 800000 in
/-- Every run of the program ends with the pipeline's arrays as the proof data says, the other arrays as the lines after
    the region leave them, and every counter at zero. -/
theorem run : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := handed_in m) (hout := handed_out m)

/-- Every run of the program leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Hand

end
-- ==== Proof.KernelIdeal.Value.lean ====
/- What a run of `KernelIdeal` leaves in its result buffer, at any float type: `k0_pay4` of the complete counts, which are the
   counts of the argument's own rows. -/
module

public import proofs.«01_k».proof.Proof.KernelIdeal.Run
public import Idealize.ShloMosaic.Lib.Pipeline.ValueKit.Geometry
public import Idealize.ShloMosaic.Lib.StableHlo.Run

@[expose] public section

set_option maxRecDepth 16384

noncomputable section

namespace Cert.KernelIdeal.Hand

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal.Gen
open Idealize.ShloMosaic.ValueIdx

variable {F : FTy → Type} [FloatOps F]
variable (m : (ℓ : Loc nD τ sig) → Buf (Elt F) ℓ) (ρ : Dev nD → PrngReg)

/-! ## The blocks the body is given -/

/-- Chunk `k` of batch row `b` of the argument: 512 of its 2048 positions. -/
def chunk (p : Vec F S32x2048x1024 .f32) (b : Fin 32) (k : Fin 4) : Vec F S1x512x1024 .f32 :=
  fun y => p (ix3 b ⟨k.val * 512 + (y 1).val, by have h : (y 1).val < 512 := (y 1).isLt; have := k.isLt; omega⟩ (y 2))

/-- The even batch row of a point, -/
def evenRow (t : Fin cfg0.N) : Fin 32 := ⟨2 * t.val, by have ht : t.val < 16 := Nat.lt_of_lt_of_eq t.isLt N_0; omega⟩
/-- and the odd one. -/
def oddRow (t : Fin cfg0.N) : Fin 32 := ⟨2 * t.val + 1, by have ht : t.val < 16 := Nat.lt_of_lt_of_eq t.isLt N_0; omega⟩

/-- Window 0's block index at a point. -/
theorem index_0 : ∀ t : Fin cfg0.N, win0_0.index t = ![2 * t.val, 0, 0] := (by decide +kernel : ∀ t : Fin grid0.N, _)
/-- Window 0 is given chunk 0 of the point's even batch row. -/
theorem block_0 (c : Dev nD) (t : Fin cfg0.N) :
    (iblk m c 0 t : Vec F S1x512x1024 .f32) = chunk (m ((c : Thread nD τ).loc main_arg0)) (evenRow t) 0 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_0 t
  match a with
  | ⟨0, _⟩ => blk_simp [e]; simp [chunk, evenRow, ix3]
  | ⟨1, _⟩ => blk_simp [e]; simp [chunk, ix3]
  | ⟨2, _⟩ => blk_simp [e]; simp [chunk, ix3]
/-- Window 1's block index at a point. -/
theorem index_1 : ∀ t : Fin cfg0.N, win0_1.index t = ![2 * t.val, 1, 0] := (by decide +kernel : ∀ t : Fin grid0.N, _)
/-- Window 1 is given chunk 1 of the point's even batch row. -/
theorem block_1 (c : Dev nD) (t : Fin cfg0.N) :
    (iblk m c 1 t : Vec F S1x512x1024 .f32) = chunk (m ((c : Thread nD τ).loc main_arg0)) (evenRow t) 1 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_1 t
  match a with
  | ⟨0, _⟩ => blk_simp [e]; simp [chunk, evenRow, ix3]
  | ⟨1, _⟩ => blk_simp [e]; simp [chunk, ix3]
  | ⟨2, _⟩ => blk_simp [e]; simp [chunk, ix3]
/-- Window 2's block index at a point. -/
theorem index_2 : ∀ t : Fin cfg0.N, win0_2.index t = ![2 * t.val, 2, 0] := (by decide +kernel : ∀ t : Fin grid0.N, _)
/-- Window 2 is given chunk 2 of the point's even batch row. -/
theorem block_2 (c : Dev nD) (t : Fin cfg0.N) :
    (iblk m c 2 t : Vec F S1x512x1024 .f32) = chunk (m ((c : Thread nD τ).loc main_arg0)) (evenRow t) 2 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_2 t
  match a with
  | ⟨0, _⟩ => blk_simp [e]; simp [chunk, evenRow, ix3]
  | ⟨1, _⟩ => blk_simp [e]; simp [chunk, ix3]
  | ⟨2, _⟩ => blk_simp [e]; simp [chunk, ix3]
/-- Window 3's block index at a point. -/
theorem index_3 : ∀ t : Fin cfg0.N, win0_3.index t = ![2 * t.val, 3, 0] := (by decide +kernel : ∀ t : Fin grid0.N, _)
/-- Window 3 is given chunk 3 of the point's even batch row. -/
theorem block_3 (c : Dev nD) (t : Fin cfg0.N) :
    (iblk m c 3 t : Vec F S1x512x1024 .f32) = chunk (m ((c : Thread nD τ).loc main_arg0)) (evenRow t) 3 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_3 t
  match a with
  | ⟨0, _⟩ => blk_simp [e]; simp [chunk, evenRow, ix3]
  | ⟨1, _⟩ => blk_simp [e]; simp [chunk, ix3]
  | ⟨2, _⟩ => blk_simp [e]; simp [chunk, ix3]
/-- Window 4's block index at a point. -/
theorem index_4 : ∀ t : Fin cfg0.N, win0_4.index t = ![2 * t.val + 1, 0, 0] := (by decide +kernel : ∀ t : Fin grid0.N, _)
/-- Window 4 is given chunk 0 of the point's odd batch row. -/
theorem block_4 (c : Dev nD) (t : Fin cfg0.N) :
    (iblk m c 4 t : Vec F S1x512x1024 .f32) = chunk (m ((c : Thread nD τ).loc main_arg0)) (oddRow t) 0 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_4 t
  match a with
  | ⟨0, _⟩ => blk_simp [e]; simp [chunk, oddRow, ix3]
  | ⟨1, _⟩ => blk_simp [e]; simp [chunk, ix3]
  | ⟨2, _⟩ => blk_simp [e]; simp [chunk, ix3]
/-- Window 5's block index at a point. -/
theorem index_5 : ∀ t : Fin cfg0.N, win0_5.index t = ![2 * t.val + 1, 1, 0] := (by decide +kernel : ∀ t : Fin grid0.N, _)
/-- Window 5 is given chunk 1 of the point's odd batch row. -/
theorem block_5 (c : Dev nD) (t : Fin cfg0.N) :
    (iblk m c 5 t : Vec F S1x512x1024 .f32) = chunk (m ((c : Thread nD τ).loc main_arg0)) (oddRow t) 1 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_5 t
  match a with
  | ⟨0, _⟩ => blk_simp [e]; simp [chunk, oddRow, ix3]
  | ⟨1, _⟩ => blk_simp [e]; simp [chunk, ix3]
  | ⟨2, _⟩ => blk_simp [e]; simp [chunk, ix3]
/-- Window 6's block index at a point. -/
theorem index_6 : ∀ t : Fin cfg0.N, win0_6.index t = ![2 * t.val + 1, 2, 0] := (by decide +kernel : ∀ t : Fin grid0.N, _)
/-- Window 6 is given chunk 2 of the point's odd batch row. -/
theorem block_6 (c : Dev nD) (t : Fin cfg0.N) :
    (iblk m c 6 t : Vec F S1x512x1024 .f32) = chunk (m ((c : Thread nD τ).loc main_arg0)) (oddRow t) 2 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_6 t
  match a with
  | ⟨0, _⟩ => blk_simp [e]; simp [chunk, oddRow, ix3]
  | ⟨1, _⟩ => blk_simp [e]; simp [chunk, ix3]
  | ⟨2, _⟩ => blk_simp [e]; simp [chunk, ix3]
/-- Window 7's block index at a point. -/
theorem index_7 : ∀ t : Fin cfg0.N, win0_7.index t = ![2 * t.val + 1, 3, 0] := (by decide +kernel : ∀ t : Fin grid0.N, _)
/-- Window 7 is given chunk 3 of the point's odd batch row. -/
theorem block_7 (c : Dev nD) (t : Fin cfg0.N) :
    (iblk m c 7 t : Vec F S1x512x1024 .f32) = chunk (m ((c : Thread nD τ).loc main_arg0)) (oddRow t) 3 := by
  funext y
  have h0 : (y 0).val < 1 := (y 0).isLt
  unfold iblk
  rw [View.read_apply, cast_eq]
  show V m c main_arg0 _ = m ((c : Thread nD τ).loc main_arg0) _
  rw [V_main_arg0]
  refine congrArg (m ((c : Thread nD τ).loc main_arg0)) (funext fun a => Fin.ext ?_)
  have e := index_7 t
  match a with
  | ⟨0, _⟩ => blk_simp [e]; simp [chunk, oddRow, ix3]
  | ⟨1, _⟩ => blk_simp [e]; simp [chunk, ix3]
  | ⟨2, _⟩ => blk_simp [e]; simp [chunk, ix3]
/-- The label window's block index at a point. -/
theorem index_8 : ∀ t : Fin cfg0.N, win0_8.index t = ![0, 0] := (by decide +kernel : ∀ t : Fin grid0.N, _)
/-- The label window is given the whole label array. -/
theorem block_8 (c : Dev nD) (t : Fin cfg0.N) : (iblk m c 8 t : Vec F _ .i32) = m ((c : Thread nD τ).loc main_arg1) := by
  funext y
  unfold iblk
  rw [View.read_apply, cast_eq]
  show V m c main_arg1 _ = m ((c : Thread nD τ).loc main_arg1) _
  rw [V_main_arg1]
  refine congrArg (m ((c : Thread nD τ).loc main_arg1)) (funext fun a => Fin.ext ?_)
  have e := index_8 t
  match a with
  | ⟨0, _⟩ => blk_simp [e]
  | ⟨1, _⟩ => blk_simp [e]

/-- The two rows of counts a point stores, from the argument. -/
def slabOf (p : Vec F S32x2048x1024 .f32) (t : Fin cfg0.N) : IVec S1x2x1024 32 :=
  slab (chunk p (evenRow t) 0) (chunk p (evenRow t) 1) (chunk p (evenRow t) 2) (chunk p (evenRow t) 3)
    (chunk p (oddRow t) 0) (chunk p (oddRow t) 1) (chunk p (oddRow t) 2) (chunk p (oddRow t) 3)

/-- The complete scratch array, from the argument. -/
def totalOf (p : Vec F S32x2048x1024 .f32) : Vec F S16x2x1024 .i32 :=
  fun y => slabOf p ⟨(y 0).val, Nat.lt_of_lt_of_eq (y 0).isLt N_0.symm⟩ (ix3 0 (y 1) (y 2))

/-- The kernel's result, from the two arguments. -/
def answer (p : Vec F S32x2048x1024 .f32) (l : IVec S32x1024 32) : Vec F S1x1 .f32 := k0_pay4 (F := F) (totalOf p) l

theorem slabAt_eq (c : Dev nD) (t : Fin cfg0.N) : slabAt m c t = slabOf (m ((c : Thread nD τ).loc main_arg0)) t := by
  unfold slabAt slabOf
  exact slab_congr (block_0 m c t) (block_1 m c t) (block_2 m c t) (block_3 m c t) (block_4 m c t) (block_5 m c t) (block_6 m c t) (block_7 m c t)

theorem result_eq (c : Dev nD) : result m c = answer (m ((c : Thread nD τ).loc main_arg0)) (m ((c : Thread nD τ).loc main_arg1)) := by
  unfold result answer
  have e : total m c = totalOf (m ((c : Thread nD τ).loc main_arg0)) :=
    funext fun y => congrFun (slabAt_eq m c _) _
  rw [e]
  exact congrArg (fun l => k0_pay4 (F := F) (totalOf (m ((c : Thread nD τ).loc main_arg0))) l) (block_8 m c lastPoint)

/-! ## The result buffer -/

/-- The result array ends holding the result. -/
theorem array_result (c : Dev nD) : (dats m 0 c).arrAt 9 cfg0.N = result m c :=
  (dats m 0 c).arrAt_eq_of_after_last 9 lastPoint (by decide +kernel) _ (fun j => by
    rw [after_9]
    rfl)

/-- The one line after the region copies it into the program's result buffer. -/
theorem tail_result (c : Dev nD) :
    Pipeline.afterTail₀ cfgs (dats m) 0 (V0 m) [hostOps1] c main_v1 = shapeCast S_ (result m c) shapeCasts_S1x1_S_ := by
  unfold Pipeline.afterTail₀
  simp only [List.flatten_cons, List.flatten_nil, List.append_nil, hostOps1]
  after_results
  have h := (dats m 0 c).withArrays_arrAt sharedIn0 (V0 m c) (A_eq m c) 9
  refine Eq.trans ?_ (congrArg (fun x => shapeCast S_ x shapeCasts_S1x1_S_) (h.trans (array_result m c)))
  rfl

/-- Every run of the program ends with the result, computed from its arguments, in the result buffer, the arguments
    unchanged and every counter at zero. -/
theorem run_value : θ_run defs (onTc (τ := τ) (main (F := F))) ⟨m, fun _ => 0, ρ⟩ (fun r => (∀ c : Dev nD,
      r.2.mem ((c.tc : Thread nD τ).loc main_v1) = shapeCast S_ (answer (m ((c.tc : Thread nD τ).loc main_arg0)) (m ((c.tc : Thread nD τ).loc main_arg1))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1.1.rest_eq c main_v1 (by decide)).trans (tail_result m c)).trans
      (congrArg (fun x => shapeCast S_ x shapeCasts_S1x1_S_) (result_eq m c)), h.2.1 c⟩, h.2.2⟩)
    (θ_run_and (run m ρ) (frame m ρ))

end Cert.KernelIdeal.Hand

end
-- ==== Proof.First.lean ====
/- The first maximum of a row of extended reals, and what a fold that always keeps the better of two elements ends with. -/
module

public import Idealize.ShloMosaic.PureOps.Reduce
public import Idealize.ShloMosaic.PureOps.Ideal.Laws
public import Idealize.ShloMosaic.Lib.ValueIdx
public import Mathlib.Data.BitVec

@[expose] public section

noncomputable section

namespace Cert.Counting

open Idealize.ShloMosaic

/-! ## The first maximum of a row -/

/-- The element at `c` is a largest one of the row. -/
def IsTop {n : Nat} (v : Fin n → EReal) (c : Fin n) : Prop := ∀ j, v j ≤ v c

/-- And `c` is the first such place. -/
def IsFirst {n : Nat} (v : Fin n → EReal) (c : Fin n) : Prop := IsTop v c ∧ ∀ j, IsTop v j → c ≤ j

/-- A row has one first maximum only, -/
theorem IsFirst.unique {n : Nat} {v : Fin n → EReal} {c d : Fin n} (hc : IsFirst v c) (hd : IsFirst v d) : c = d :=
  le_antisymm (hc.2 d hd.1) (hd.2 c hc.1)

/-- and a nonempty row has one. -/
theorem exists_isFirst {n : Nat} (v : Fin (n + 1) → EReal) : ∃ c, IsFirst v c := by
  classical
  obtain ⟨t, ht⟩ := Finite.exists_max v
  have hne : (Finset.univ.filter fun c => IsTop v c).Nonempty := ⟨t, Finset.mem_filter.2 ⟨Finset.mem_univ _, ht⟩⟩
  refine ⟨(Finset.univ.filter fun c => IsTop v c).min' hne, (Finset.mem_filter.1 (Finset.min'_mem _ hne)).2, fun j hj => ?_⟩
  exact Finset.min'_le _ _ (Finset.mem_filter.2 ⟨Finset.mem_univ _, hj⟩)

/-- An element is a largest one exactly when it equals the row's maximum. -/
theorem eq_max_iff {n : Nat} (v : Fin n → EReal) (M : EReal) (hM : ∃ c, M = v c) (hle : ∀ c, v c ≤ M) (c : Fin n) :
    v c = M ↔ IsTop v c := by
  constructor
  · intro h j
    rw [h]; exact hle j
  · intro h
    obtain ⟨d, hd⟩ := hM
    exact le_antisymm (hle c) (hd ▸ h d)

/-- Where a row has one largest element only, that is its first maximum. -/
theorem isTop_iff_isFirst {n : Nat} {v : Fin (n + 1) → EReal} (h : ∀ c d, IsTop v c → IsTop v d → c = d) (c : Fin (n + 1)) :
    IsTop v c ↔ IsFirst v c :=
  ⟨fun hc => ⟨hc, fun j hj => (h c j hc hj).le⟩, fun hc => hc.1⟩

/-! ## Folds that keep the better element -/

/-- A left fold of an operation that returns one of its two arguments, the better one in a preorder, ends with the initial
    element or an element of the list, and that is at least as good as all of them. -/
theorem foldl_best {ι α : Type} (le : α → α → Prop) (hr : ∀ a, le a a) (ht : ∀ a b c, le a b → le b c → le a c)
    (f : α → α → α) (hf : ∀ a b, f a b = a ∨ f a b = b) (hl : ∀ a b, le (f a b) a ∧ le (f a b) b) (g : ι → α) :
    ∀ (l : List ι) (init : α), (l.foldl (fun r n => f r (g n)) init = init ∨ ∃ n ∈ l, l.foldl (fun r n => f r (g n)) init = g n)
      ∧ le (l.foldl (fun r n => f r (g n)) init) init ∧ ∀ n ∈ l, le (l.foldl (fun r n => f r (g n)) init) (g n)
  | [], init => ⟨.inl rfl, hr _, fun _ h => absurd h List.not_mem_nil⟩
  | a :: l, init => by
    obtain ⟨h1, h2, h3⟩ := foldl_best le hr ht f hf hl g l (f init (g a))
    rw [List.foldl_cons]
    refine ⟨?_, ht _ _ _ h2 (hl _ _).1, fun n hn => ?_⟩
    · rcases h1 with h1 | ⟨n, hn, h1⟩
      · rcases hf init (g a) with e | e
        · exact .inl (h1.trans e)
        · exact .inr ⟨a, List.mem_cons_self, h1.trans e⟩
      · exact .inr ⟨n, List.mem_cons_of_mem _ hn, h1⟩
    · rcases List.mem_cons.1 hn with rfl | hn
      · exact ht _ _ _ h2 (hl _ _).2
      · exact h3 n hn

/-- The same of a reduction inside a kernel: over the source indices that reduce to `j`. -/
theorem reduceFold_best {α : Type} {s t : Shape} {axes : List (Fin s.rank)} (h : s.Reduces axes t) (le : α → α → Prop)
    (hr : ∀ a, le a a) (ht : ∀ a b c, le a b → le b c → le a c) (f : α → α → α) (hf : ∀ a b, f a b = a ∨ f a b = b)
    (hl : ∀ a b, le (f a b) a ∧ le (f a b) b) (init : α) (x : s.Idx → α) (j : t.Idx) :
    (reduceFold h f init x j = init ∨ ∃ i, h.drop i = j ∧ reduceFold h f init x j = x i)
      ∧ ∀ i, h.drop i = j → le (reduceFold h f init x j) (x i) := by
  obtain ⟨h1, -, h3⟩ := foldl_best le hr ht f hf hl (fun n => x (s.rowMajor.symm n))
    ((List.finRange s.numel).filter fun n => h.drop (s.rowMajor.symm n) = j) init
  refine ⟨h1.imp id ?_, fun i hi => ?_⟩
  · rintro ⟨n, hn, e⟩
    exact ⟨s.rowMajor.symm n, of_decide_eq_true (List.mem_filter.1 hn).2, e⟩
  · have := h3 (s.rowMajor i) (List.mem_filter.2 ⟨List.mem_finRange _, by simp [hi]⟩)
    simpa [reduceFold] using this

/-- The same of a reference's reduction of pairs. -/
theorem reduce2_best {α β : Type} {s t u : Shape} {axes : List (Fin s.rank)} (h : s.ReducesTo axes t) (hu : 0 < u.numel)
    (le : α × β → α × β → Prop) (hr : ∀ a, le a a) (ht : ∀ a b c, le a b → le b c → le a c) (f : α × β → α × β → α × β)
    (hf : ∀ a b, f a b = a ∨ f a b = b) (hl : ∀ a b, le (f a b) a ∧ le (f a b) b) (x : s.Idx → α) (y : s.Idx → β)
    (ix : u.Idx → α) (iy : u.Idx → β) (j : t.Idx) :
    (Host.reduce2 f x y ix iy h hu j = (ix (Shape.Idx.first hu), iy (Shape.Idx.first hu))
        ∨ ∃ i, h.drop i = j ∧ Host.reduce2 f x y ix iy h hu j = (x i, y i))
      ∧ ∀ i, h.drop i = j → le (Host.reduce2 f x y ix iy h hu j) (x i, y i) := by
  obtain ⟨h1, -, h3⟩ := foldl_best le hr ht f hf hl (fun n => (x (s.rowMajor.symm n), y (s.rowMajor.symm n)))
    ((List.finRange s.numel).filter fun n => h.drop (s.rowMajor.symm n) = j) (ix (Shape.Idx.first hu), iy (Shape.Idx.first hu))
  refine ⟨h1.imp id ?_, fun i hi => ?_⟩
  · rintro ⟨n, hn, e⟩
    exact ⟨s.rowMajor.symm n, of_decide_eq_true (List.mem_filter.1 hn).2, e⟩
  · have := h3 (s.rowMajor i) (List.mem_filter.2 ⟨List.mem_finRange _, by simp [hi]⟩)
    simpa [Host.reduce2] using this

/-! ## Reductions inside a kernel, read at a result index -/

/-- The bit pattern a maximum starts at is the least extended real. -/
theorem ofBits_negInf : Ideal.ofBits .f32 0xFF800000#32 = ⊥ := by
  simp [Ideal.ofBits, Ideal.ieee]

/-- A maximum reduction is the least extended real or one of the elements it reads, and at least as large as each of them. -/
theorem maximum_best {s t : Shape} {axes : List (Fin s.rank)} (x : FVec Ideal s .f32) (h : s.Reduces axes t)
    (hφ : FKind.Formats .f32) (hacc : 0xFF800000#32 = FKind.maximumf.neutral .f32 hφ) (j : t.Idx) :
    ((multiReduction .maximumf axes t x 0xFF800000#32 h hφ hacc j : EReal) = ⊥
        ∨ ∃ i, h.drop i = j ∧ (multiReduction .maximumf axes t x 0xFF800000#32 h hφ hacc j : EReal) = x i)
      ∧ ∀ i, h.drop i = j → (x i : EReal) ≤ multiReduction .maximumf axes t x 0xFF800000#32 h hφ hacc j := by
  have hb := reduceFold_best h (fun a b : EReal => b ≤ a) (fun a => le_rfl) (fun a b c h h' => h'.trans h)
    (fun a b : EReal => max a b) (fun a b => max_choice a b) (fun a b => ⟨le_max_left a b, le_max_right a b⟩)
    (Ideal.ofBits .f32 0xFF800000#32) x j
  rw [ofBits_negInf] at hb
  rw [multiReduction_maximumf_eq_reduceFold]
  have e : reduceFold h (FloatOps.maximumf (F := Ideal) (φ := .f32)) (FloatOps.ofBits .f32 0xFF800000#32) x j
      = reduceFold h (fun a b : EReal => max a b) (⊥ : EReal) x j := by
    rw [← ofBits_negInf]; rfl
  rw [e]
  exact hb

/-- A minimum reduction of words is the greatest word or one of the words it reads, and at most as large as each of them. -/
theorem minimum_best {s t : Shape} {axes : List (Fin s.rank)} (x : IVec s 32) (h : s.Reduces axes t)
    (hacc : 2147483647#32 = IKind.minsi.neutral) (j : t.Idx) :
    (multiReductionI .minsi axes t x 2147483647#32 h hacc j = 2147483647#32
        ∨ ∃ i, h.drop i = j ∧ multiReductionI .minsi axes t x 2147483647#32 h hacc j = x i)
      ∧ ∀ i, h.drop i = j → (multiReductionI .minsi axes t x 2147483647#32 h hacc j).toInt ≤ (x i).toInt := by
  rw [multiReductionI_eq_reduceFold]
  refine reduceFold_best h (fun a b : BitVec 32 => a.toInt ≤ b.toInt) (fun a => le_rfl) (fun a b c h h' => h.trans h') IntOp.minsi ?_ ?_ _ x j
  · intro a b
    unfold IntOp.minsi
    split
    · exact .inl rfl
    · exact .inr rfl
  · intro a b
    unfold IntOp.minsi
    split
    · rename_i h
      exact ⟨le_rfl, (BitVec.slt_iff_toInt_lt.1 h).le⟩
    · rename_i h
      exact ⟨not_lt.1 fun h' => h (BitVec.slt_iff_toInt_lt.2 h'), le_rfl⟩

/-- A sum reduction of words is the sum of the words it reads. -/
theorem add_eq_sum {s t : Shape} {axes : List (Fin s.rank)} (x : IVec s 32) (h : s.Reduces axes t)
    (hacc : 0#32 = IKind.add.neutral) (j : t.Idx) :
    multiReductionI .add axes t x 0#32 h hacc j = ∑ i ∈ Finset.univ.filter (fun i => h.drop i = j), x i := by
  rw [multiReductionI_eq_reduceFold]
  show reduceFold h (· + ·) (0#32 : BitVec 32) x j = _
  rw [reduceFold_add_eq_sum, show (0#32 : BitVec 32) = 0 from rfl, zero_add]

/-- A reference's sum reduction of words to a single one is the sum of all of them. -/
theorem host_add_eq_sum {s t u : Shape} {axes : List (Fin s.rank)} [Subsingleton t.Idx] (x : IVec s 32) (init : IVec u 32)
    (h : s.ReducesTo axes t) (hu : 0 < u.numel) (hi : ∀ i, init i = 0#32) (j : t.Idx) :
    Host.reduce IntOp.addi x init h hu j = ∑ i, x i := by
  rw [Host.reduce_eq_fold]
  have e : (Finset.univ.filter fun i => h.drop i = j) = Finset.univ := Finset.filter_true_of_mem fun i _ => Subsingleton.elim _ _
  rw [e, hi]
  induction (Finset.univ : Finset s.Idx) using Finset.cons_induction with
  | empty => rfl
  | cons a S ha ih => rw [Finset.fold_cons, Finset.sum_cons, ih]; rfl

/-! ## Words that are one where something holds -/

open Classical in
/-- One where the proposition holds, else zero. -/
def ind (P : Prop) : BitVec 32 := if P then 1#32 else 0#32

theorem ind_pos {P : Prop} (h : P) : ind P = 1#32 := if_pos h
theorem ind_neg {P : Prop} (h : ¬P) : ind P = 0#32 := if_neg h
theorem ind_congr {P Q : Prop} (h : P ↔ Q) : ind P = ind Q := congrArg ind (propext h)

/-- The indicator and its complement add up to one. -/
theorem ind_not (P : Prop) : ind (¬P) = 1#32 - ind P := by
  by_cases h : P
  · rw [ind_neg (not_not.2 h), ind_pos h]; rfl
  · rw [ind_pos h, ind_neg h]; rfl

/-- A bit widened to a word is the indicator of the bit's being one. -/
theorem setWidth_eq_ind (b : BitVec 1) : b.setWidth 32 = ind (b = 1#1) := by
  by_cases h : b = 1#1
  · rw [ind_pos h, h]; rfl
  · rw [ind_neg h]
    have hb : b = 0#1 := BitVec.eq_of_toNat_eq (by
      have h1 : b.toNat ≠ 1 := fun e => h (BitVec.eq_of_toNat_eq e)
      have := b.isLt
      show b.toNat = 0
      omega)
    rw [hb]; rfl

/-- The bit of a decided proposition is one exactly when it holds. -/
theorem ofBool_decide_eq_one {P : Prop} [Decidable P] : BitVec.ofBool (decide P) = 1#1 ↔ P := by
  by_cases h : P <;> simp [h]

/-! ## Ties -/

/-- In a block of rows each of which has a largest element, if the largest elements are as many as the rows, then each row
    has one only. -/
theorem top_unique_of_count {R n : Nat} (v : Fin R → Fin (n + 1) → EReal) (hR : R * (n + 1) < 2 ^ 32)
    (h : ∑ c : Fin (n + 1), ∑ r : Fin R, ind (IsTop (v r) c) = BitVec.ofNat 32 R) (r : Fin R) (c d : Fin (n + 1))
    (hc : IsTop (v r) c) (hd : IsTop (v r) d) : c = d := by
  classical
  set N : Fin R → ℕ := fun r => (Finset.univ.filter fun c => IsTop (v r) c).card with hN
  have hsum : ∑ c : Fin (n + 1), ∑ r : Fin R, ind (IsTop (v r) c) = BitVec.ofNat 32 (∑ r, N r) := by
    rw [Finset.sum_comm]
    have e : ∀ r, ∑ c : Fin (n + 1), ind (IsTop (v r) c) = ((N r : ℕ) : BitVec 32) := fun r => by
      have : ∀ c, ind (IsTop (v r) c) = if IsTop (v r) c then (1 : BitVec 32) else 0 := fun c => by
        by_cases h : IsTop (v r) c
        · rw [ind_pos h, if_pos h]; rfl
        · rw [ind_neg h, if_neg h]; rfl
      simp only [this]
      rw [Finset.sum_boole]
    simp only [e]
    rw [← Nat.cast_sum]; rfl
  have hle : ∀ r, N r ≤ n + 1 := fun r => (Finset.card_filter_le _ _).trans (by simp)
  have hge : ∀ r, 1 ≤ N r := fun r => by
    obtain ⟨c, hc⟩ := exists_isFirst (v r)
    exact Finset.card_pos.2 ⟨c, Finset.mem_filter.2 ⟨Finset.mem_univ _, hc.1⟩⟩
  have hT : ∑ r, N r ≤ R * (n + 1) := by
    refine (Finset.sum_le_card_nsmul _ _ (n + 1) fun r _ => hle r).trans ?_
    simp
  have hR' : R < 2 ^ 32 := lt_of_le_of_lt (Nat.le_mul_of_pos_right R (Nat.succ_pos n)) hR
  have hTR : ∑ r, N r = R := by
    have := congrArg BitVec.toNat (hsum.symm.trans h)
    rw [BitVec.toNat_ofNat, BitVec.toNat_ofNat, Nat.mod_eq_of_lt (lt_of_le_of_lt hT hR), Nat.mod_eq_of_lt hR'] at this
    exact this
  have h1 : ∀ r, N r = 1 := by
    have e : ∑ r : Fin R, 1 = ∑ r, N r := by rw [hTR]; simp
    exact fun r => ((Finset.sum_eq_sum_iff_of_le fun r _ => hge r).1 e r (Finset.mem_univ _)).symm
  exact Finset.card_le_one.1 (h1 r).le c (Finset.mem_filter.2 ⟨Finset.mem_univ _, hc⟩) d (Finset.mem_filter.2 ⟨Finset.mem_univ _, hd⟩)

/-- The word of a column number, read signed, is the number. -/
theorem column_toInt (c : Fin 1024) : (BitVec.ofNat 32 c.val).toInt = (c.val : Int) := by
  have := c.isLt
  rw [BitVec.toInt_eq_toNat_of_lt (by rw [BitVec.toNat_ofNat]; omega), BitVec.toNat_ofNat, Nat.mod_eq_of_lt (by omega)]

/-- Two columns with the same word are the same. -/
theorem column_inj {c d : Fin 1024} (h : BitVec.ofNat 32 c.val = BitVec.ofNat 32 d.val) : c = d := by
  have := congrArg BitVec.toInt h
  rw [column_toInt, column_toInt] at this
  exact Fin.ext (by omega)

/-! ## The quantities both programs compute -/

/-- The row of scores at position `s` of batch row `b`. -/
def line (p : (⟨3, ![32, 2048, 1024]⟩ : Shape).Idx → EReal) (b : Fin 32) (s : Fin 2048) : Fin 1024 → EReal :=
  fun c => p (ValueIdx.ix3 b s c)

/-- How many positions of batch row `b` have their first maximum at class `c`, as a word. -/
def tally (p : (⟨3, ![32, 2048, 1024]⟩ : Shape).Idx → EReal) (b : Fin 32) (c : Fin 1024) : BitVec 32 :=
  ∑ s : Fin 2048, ind (IsFirst (line p b s) c)

/-- The quotient's numerator: the labels of every class but the first, less what they exceed the counts by. -/
def numerator (l n : Fin 32 → Fin 1024 → BitVec 32) : BitVec 32 :=
  (∑ b, ∑ c : Fin 1023, l b c.succ) - ∑ b, ∑ c : Fin 1023, IntOp.maxsi (l b c.succ - n b c.succ) 0#32

/-- Its denominator's count: the positions whose first maximum is not at class 0. -/
def denominator (n : Fin 32 → Fin 1024 → BitVec 32) : BitVec 32 := 65536#32 - ∑ b, n b 0

/-- The quotient of two such words. -/
def quotient (a b : BitVec 32) : EReal :=
  Ideal.div (FloatOps.sitofp (F := Ideal) .f32 a) (FloatOps.sitofp (F := Ideal) .f32 b + Ideal.ofBits .f32 0x358637BD#32)

/-- A sum over the positions of a batch row, by chunks of 512. -/
theorem sum_chunks (g : Fin 2048 → BitVec 32) :
    ∑ s, g s = (∑ r : Fin 512, g ⟨0 * 512 + r.val, by omega⟩) + (∑ r : Fin 512, g ⟨1 * 512 + r.val, by omega⟩)
      + (∑ r : Fin 512, g ⟨2 * 512 + r.val, by omega⟩) + ∑ r : Fin 512, g ⟨3 * 512 + r.val, by omega⟩ := by
  have e : ∑ s, g s = ∑ k : Fin 4, ∑ r : Fin 512, g ⟨k.val * 512 + r.val, by omega⟩ := by
    rw [← Fintype.sum_prod_type' (f := fun (k : Fin 4) (r : Fin 512) => g ⟨k.val * 512 + r.val, by omega⟩)]
    refine (Fintype.sum_equiv (finProdFinEquiv (m := 4) (n := 512)) _ _ fun x => congrArg g (Fin.ext ?_)).symm
    show x.1.val * 512 + x.2.val = x.2.val + 512 * x.1.val
    omega
  rw [e, Fin.sum_univ_four]
  rfl

end Cert.Counting

end
-- ==== Proof.KernelIdeal.Counts.lean ====
/- The counts `KernelIdeal` takes of one block, read over the extended reals: in either branch, per column, how many of the
   block's rows have their first maximum there. -/
module

public import proofs.«01_k».proof.Proof.First
public import proofs.«01_k».proof.Proof.KernelIdeal.Value
public import Idealize.ShloMosaic.Lib.ValueLayout

@[expose] public section

set_option maxRecDepth 16384

noncomputable section

namespace Cert.KernelIdeal.Hand

open Idealize.ShloMosaic Idealize.ShloMosaic.ValueIdx Cert.Counting
open Cert.KernelIdeal.Gen

/-- Row `r` of a block. -/
def rowOf (x : Vec Ideal S1x512x1024 .f32) (r : Fin 512) : Fin 1024 → EReal := fun c => x (ix3 0 r c)

/-! ## Which source indices a reduction reads -/

/-- Reducing the last axis keeps the row. -/
theorem drop_last (r : Fin 512) (i : S1x512x1024.Idx) : reduces_S1x512x1024_S1x512.drop i = ix2 0 r ↔ i 1 = r := by
  constructor
  · intro h
    have := congrFun h 1
    exact Fin.ext (congrArg Fin.val this)
  · intro h
    funext a
    match a with
    | ⟨0, _⟩ => exact Subsingleton.elim (α := Fin 1) _ _
    | ⟨1, _⟩ => exact Fin.ext (congrArg Fin.val h)

/-- Reducing the middle axis keeps the column. -/
theorem drop_middle (c : Fin 1024) (i : S1x512x1024.Idx) : reduces_S1x512x1024_S1x1024.drop i = ix2 0 c ↔ i 2 = c := by
  constructor
  · intro h
    have := congrFun h 1
    exact Fin.ext (congrArg Fin.val this)
  · intro h
    funext a
    match a with
    | ⟨0, _⟩ => exact Subsingleton.elim (α := Fin 1) _ _
    | ⟨1, _⟩ => exact Fin.ext (congrArg Fin.val h)

/-- An index of a block, from its row and column. -/
theorem eq_row_column (i : S1x512x1024.Idx) : i = ix3 0 (i 1) (i 2) := by
  refine (eq_ix3 i).trans ?_
  rw [show i 0 = (0 : Fin 1) from Subsingleton.elim (α := Fin 1) _ _]
  rfl

/-- A sum over the middle axis. -/
theorem sum_middle (x : IVec S1x512x1024 32) (c : Fin 1024) :
    multiReductionI .add [1] S1x1024 x 0#32 reduces_S1x512x1024_S1x1024 rfl (ix2 0 c) = ∑ r : Fin 512, x (ix3 0 r c) := by
  refine (add_eq_sum x _ _ _).trans ?_
  refine Finset.sum_nbij' (fun i => i 1) (fun r => ix3 0 r c) (fun _ _ => Finset.mem_univ _) ?_ ?_ ?_ ?_
  · intro r _
    exact Finset.mem_filter.2 ⟨Finset.mem_univ _, (drop_middle c _).2 rfl⟩
  · intro i hi
    have h := (drop_middle c i).1 (Finset.mem_filter.1 hi).2
    show ix3 0 (i 1) c = i
    rw [← h]; exact (eq_row_column i).symm
  · intro r _; rfl
  · intro i hi
    have h := (drop_middle c i).1 (Finset.mem_filter.1 hi).2
    show x i = x (ix3 0 (i 1) c)
    rw [← h]; exact congrArg x (eq_row_column i)

/-! ## The row maximum and the hits -/

/-- A row's maximum is one of its elements and at least as large as each. -/
theorem rowMax (x : Vec Ideal S1x512x1024 .f32) (r : Fin 512) :
    (∃ c, k0_pay5 x (ix3 0 r 0) = rowOf x r c) ∧ ∀ c, rowOf x r c ≤ k0_pay5 x (ix3 0 r 0) := by
  have e : k0_pay5 x (ix3 0 r 0)
      = multiReduction .maximumf [2] S1x512 x 0xFF800000#32 reduces_S1x512x1024_S1x512 (.inl rfl) rfl (ix2 0 r) := by
    unfold k0_pay5
    refine shapeCast_apply (s := S1x512) (t := S1x512x1) _ shapeCasts_S1x512_S1x512x1 (ix3 0 r 0) (ix2 0 r) ?_
    rw [Shape.rowMajor_val_two, Shape.rowMajor_val_three]
    show 0 * 512 + r.val = (0 * 512 + r.val) * 1 + 0
    omega
  have hb := maximum_best x reduces_S1x512x1024_S1x512 (.inl rfl) rfl (ix2 0 r)
  rw [← e] at hb
  have hle : ∀ c, rowOf x r c ≤ k0_pay5 x (ix3 0 r 0) := fun c => hb.2 (ix3 0 r c) ((drop_last r _).2 rfl)
  refine ⟨?_, hle⟩
  rcases hb.1 with h | ⟨i, hi, h⟩
  · refine ⟨0, ?_⟩
    have h0 := hle 0
    rw [h] at h0
    exact h.trans (le_bot_iff.1 h0).symm
  · refine ⟨i 2, h.trans ?_⟩
    show x i = x (ix3 0 r (i 2))
    rw [← (drop_last r i).1 hi]
    exact congrArg x (eq_row_column i)

/-- A hit's bit is one exactly at a largest element of its row. -/
theorem hit_eq_one (x : Vec Ideal S1x512x1024 .f32) (r : Fin 512) (c : Fin 1024) :
    cmpf .oeq x (broadcastTo S1x512x1024 (k0_pay5 x) broadcasts_S1x512x1_S1x512x1024) (ix3 0 r c) = 1#1 ↔ IsTop (rowOf x r) c := by
  have e : broadcastTo S1x512x1024 (k0_pay5 x) broadcasts_S1x512x1_S1x512x1024 (ix3 0 r c) = k0_pay5 x (ix3 0 r 0) :=
    broadcastTo_apply _ _ _ _ (fun a => by match a with | ⟨0, _⟩ => rfl | ⟨1, _⟩ => rfl | ⟨2, _⟩ => rfl)
  rw [cmpf_apply, e, ← eq_max_iff (rowOf x r) _ (rowMax x r).1 (rowMax x r).2 c]
  exact ofBool_decide_eq_one

/-! ## The counts -/

/-- Per column, the hits. -/
theorem hits (x : Vec Ideal S1x512x1024 .f32) (c : Fin 1024) : k0_pay6 x (ix2 0 c) = ∑ r, ind (IsTop (rowOf x r) c) := by
  unfold k0_pay6
  refine (sum_middle _ c).trans (Finset.sum_congr rfl fun r _ => ?_)
  rw [extui_apply, setWidth_eq_ind]
  exact ind_congr (hit_eq_one x r c)

/-- The first maximum's column among a row's hits: a word that is 1024 off the hits and the column on them has, over a row,
    the first hit's column for its minimum. -/
theorem minimum_first (x : Vec Ideal S1x512x1024 .f32) (w : IVec S1x512x1024 32)
    (hw : ∀ r c, IsTop (rowOf x r) c → w (ix3 0 r c) = BitVec.ofNat 32 c.val)
    (hw' : ∀ r c, ¬IsTop (rowOf x r) c → w (ix3 0 r c) = 1024#32) (r : Fin 512) (c : Fin 1024) :
    multiReductionI .minsi [2] S1x512 w 2147483647#32 reduces_S1x512x1024_S1x512 rfl (ix2 0 r) = BitVec.ofNat 32 c.val
      ↔ IsFirst (rowOf x r) c := by
  obtain ⟨h1, h2⟩ := minimum_best w reduces_S1x512x1024_S1x512 rfl (ix2 0 r)
  generalize multiReductionI .minsi [2] S1x512 w 2147483647#32 reduces_S1x512x1024_S1x512 rfl (ix2 0 r) = M at h1 h2
  obtain ⟨f, hf⟩ := exists_isFirst (rowOf x r)
  have hle : ∀ d, IsTop (rowOf x r) d → M.toInt ≤ (d.val : Int) := fun d hd => by
    have := h2 (ix3 0 r d) ((drop_last r _).2 rfl)
    rwa [hw r d hd, column_toInt] at this
  have hM : M = BitVec.ofNat 32 f.val := by
    have hfl := hle f hf.1
    have hlt := f.isLt
    rcases h1 with h | ⟨i, hi, h⟩
    · rw [h, show (2147483647#32 : BitVec 32).toInt = 2147483647 from by decide] at hfl
      omega
    · obtain ⟨d, hd⟩ : ∃ d : Fin 1024, i = ix3 0 r d := ⟨i 2, by
        rw [← (drop_last r i).1 hi]; exact eq_row_column i⟩
      have h' : M = w (ix3 0 r d) := h.trans (congrArg w hd)
      by_cases ht : IsTop (rowOf x r) d
      · have hM := h'.trans (hw r d ht)
        rw [hM, column_toInt] at hfl
        have := hf.2 d ht
        rw [hM]
        exact congrArg (fun k : Fin 1024 => BitVec.ofNat 32 k.val) (le_antisymm (Fin.le_def.2 (by omega)) this)
      · rw [h'.trans (hw' r d ht), show (1024#32 : BitVec 32).toInt = 1024 from by decide] at hfl
        omega
  rw [hM]
  constructor
  · intro h
    exact column_inj h ▸ hf
  · intro h
    rw [hf.unique h]

/-- The word chosen at an element: its column on a hit, 1024 elsewhere. -/
theorem choice_hit (x : Vec Ideal S1x512x1024 .f32) (a b : IVec S1x512x1024 32) (r : Fin 512) (c : Fin 1024) :
    (IsTop (rowOf x r) c → select (cmpf .oeq x (broadcastTo S1x512x1024 (k0_pay5 x) broadcasts_S1x512x1_S1x512x1024)) a b (ix3 0 r c) = a (ix3 0 r c))
    ∧ (¬IsTop (rowOf x r) c → select (cmpf .oeq x (broadcastTo S1x512x1024 (k0_pay5 x) broadcasts_S1x512x1_S1x512x1024)) a b (ix3 0 r c) = b (ix3 0 r c)) := by
  rw [select_apply]
  constructor
  · intro h
    rw [(hit_eq_one x r c).2 h]; rfl
  · intro h
    rw [eq_zero_of_ne_one fun e => h ((hit_eq_one x r c).1 e)]; rfl

/-- The column number of an element, as a word. -/
theorem column_word (r : Fin 512) (c : Fin 1024) :
    iota .tc S1x512x1024 32 [2] iota_S1x512x1024_d2_w32 (ix3 0 r c) = BitVec.ofNat 32 c.val := by
  show BitVec.ofNat 32 (0 * 1024 + c.val) = _
  rw [Nat.zero_mul, Nat.zero_add]

/-- Per column, the first hits. -/
theorem firsts (x : Vec Ideal S1x512x1024 .f32) (c : Fin 1024) : k0_pay8 x (ix2 0 c) = ∑ r, ind (IsFirst (rowOf x r) c) := by
  unfold k0_pay8
  refine (sum_middle _ c).trans (Finset.sum_congr rfl fun r _ => ?_)
  rw [extui_apply, setWidth_eq_ind]
  refine ind_congr ?_
  rw [← minimum_first x _ (fun r c h => ((choice_hit x (iota .tc S1x512x1024 32 [2] iota_S1x512x1024_d2_w32) (broadcast S1x512x1024 1024#32) r c).1 h).trans (column_word r c))
    (fun r c h => (choice_hit x (iota .tc S1x512x1024 32 [2] iota_S1x512x1024_d2_w32) (broadcast S1x512x1024 1024#32) r c).2 h) r c]
  generalize select (cmpf .oeq x (broadcastTo S1x512x1024 (k0_pay5 x) broadcasts_S1x512x1_S1x512x1024))
    (iota .tc S1x512x1024 32 [2] iota_S1x512x1024_d2_w32) (broadcast S1x512x1024 1024#32) = w
  generalize multiReductionI .minsi [2] S1x512 w 2147483647#32 reduces_S1x512x1024_S1x512 rfl = m
  have e : broadcastTo S1x512x1024 (shapeCast S1x512x1 m shapeCasts_S1x512_S1x512x1) broadcasts_S1x512x1_S1x512x1024 (ix3 0 r c) = m (ix2 0 r) := by
    refine (broadcastTo_apply _ _ _ (ix3 0 r 0) (fun a => by match a with | ⟨0, _⟩ => rfl | ⟨1, _⟩ => rfl | ⟨2, _⟩ => rfl)).trans ?_
    refine shapeCast_apply (s := S1x512) (t := S1x512x1) _ shapeCasts_S1x512_S1x512x1 (ix3 0 r 0) (ix2 0 r) ?_
    rw [Shape.rowMajor_val_two, Shape.rowMajor_val_three]
    show 0 * 512 + r.val = (0 * 512 + r.val) * 1 + 0
    omega
  show IntOp.cmpi .eq _ _ = 1#1 ↔ _
  rw [e, column_word]
  show BitVec.ofBool (_ == _) = 1#1 ↔ _
  rw [beq_eq_decide]
  exact ofBool_decide_eq_one

/-- The total of the hits. -/
theorem total_hits (x : Vec Ideal S1x512x1024 .f32) (y : S1x1x1.Idx) :
    k0_pay7 x y = ∑ c : Fin 1024, ∑ r : Fin 512, ind (IsTop (rowOf x r) c) := by
  unfold k0_pay7
  have hy : ∀ z : S1.Idx, z = ix1 0 := fun z => (eq_ix1 z).trans (congrArg ix1 (Subsingleton.elim (α := Fin 1) _ _))
  have e : ∀ v : IVec S1 32, shapeCast S1x1x1 v shapeCasts_S1_S1x1x1 y = v (ix1 0) := fun v => congrArg v (hy _)
  refine (e _).trans ?_
  refine (add_eq_sum _ _ _ _).trans ?_
  refine Finset.sum_nbij' (fun i => (i 2 : Fin 1024)) (fun c => (ix3 0 0 c : S1x1x1024.Idx)) (fun _ _ => Finset.mem_univ _) ?_ ?_ ?_ ?_
  · intro c _
    exact Finset.mem_filter.2 ⟨Finset.mem_univ _, hy _⟩
  · intro i _
    refine Eq.trans ?_ (eq_ix3 i).symm
    rw [show i 0 = (0 : Fin 1) from Subsingleton.elim (α := Fin 1) _ _, show i 1 = (0 : Fin 1) from Subsingleton.elim (α := Fin 1) _ _]
    rfl
  · intro c _; rfl
  · intro i _
    rw [← hits x (i 2)]
    refine shapeCast_apply (s := S1x1024) (t := S1x1x1024) _ shapeCasts_S1x1024_S1x1x1024 i (ix2 0 (i 2)) ?_
    rw [Shape.rowMajor_val_two, Shape.rowMajor_val_three]
    have h0 : (i 0).val = 0 := by have h : (i 0).val < 1 := (i 0).isLt; omega
    have h1 : (i 1).val = 0 := by have h : (i 1).val < 1 := (i 1).isLt; omega
    show 0 * 1024 + (i 2).val = ((i 0).val * 1 + (i 1).val) * 1024 + (i 2).val
    omega

/-- The branch's bit is one exactly where the hits are not as many as the rows. -/
theorem tied_iff (x : Vec Ideal S1x512x1024 .f32) :
    ¬tied x = 1#1 → ∑ c : Fin 1024, ∑ r : Fin 512, ind (IsTop (rowOf x r) c) = BitVec.ofNat 32 512 := by
  unfold tied
  rw [show extractAt ![0, 0, 0] (k0_pay7 x) inpos_S1x1x1_p0_0_0 = _ from total_hits x _]
  generalize ∑ c : Fin 1024, ∑ r : Fin 512, ind (IsTop (rowOf x r) c) = T
  intro h
  by_contra hT
  refine h ?_
  have h1 : Scalar.cmpi .ne T 512#32 = 1#1 := by
    show BitVec.ofBool (T != 512#32) = 1#1
    rw [bne_iff_ne.2 hT]; rfl
  rw [h1]; rfl

/-- In either branch a column's count is the number of rows whose first maximum is there. -/
theorem blockCounts_apply (x : Vec Ideal S1x512x1024 .f32) (c : Fin 1024) :
    blockCounts x (ix2 0 c) = ∑ r, ind (IsFirst (rowOf x r) c) := by
  unfold blockCounts
  by_cases h : tied x = 1#1
  · rw [if_pos h]; exact firsts x c
  · rw [if_neg h, hits]
    have hu := top_unique_of_count (rowOf x) (by norm_num) (tied_iff x h)
    exact Finset.sum_congr rfl fun r _ => ind_congr (isTop_iff_isFirst (hu r) c)

end Cert.KernelIdeal.Hand

end
-- ==== Proof.KernelIdeal.Answer.lean ====
/- What `KernelIdeal` computes over the extended reals, in closed form: the quotient of the two words the labels and the
   tallies of first maxima give. -/
module

public import proofs.«01_k».proof.Proof.KernelIdeal.Counts

@[expose] public section

set_option maxRecDepth 16384

noncomputable section

namespace Cert.KernelIdeal.Hand

open Idealize.ShloMosaic Idealize.ShloMosaic.ValueIdx Cert.Counting
open Cert.KernelIdeal.Gen
open Idealize.ShloMosaic.Pipeline (Dat Cfg Window)

/-! ## The complete counts -/

/-- A column's count of one chunk of a batch row. -/
theorem chunk_count (p : Vec Ideal S32x2048x1024 .f32) (b : Fin 32) (k : Fin 4) (c : Fin 1024) :
    blockCounts (chunk p b k) (ix2 0 c) = ∑ r : Fin 512, ind (IsFirst (line p b ⟨k.val * 512 + r.val, by omega⟩) c) :=
  blockCounts_apply (chunk p b k) c

/-- The four chunks' counts make up the batch row's tally. -/
theorem chunks_count (p : Vec Ideal S32x2048x1024 .f32) (b : Fin 32) (c : Fin 1024) :
    blockCounts (chunk p b 0) (ix2 0 c) + blockCounts (chunk p b 1) (ix2 0 c) + blockCounts (chunk p b 2) (ix2 0 c)
      + blockCounts (chunk p b 3) (ix2 0 c) = tally p b c := by
  unfold tally
  rw [sum_chunks, chunk_count, chunk_count, chunk_count, chunk_count]
  rfl

/-- The first of the two rows a point stores adds up its first four blocks' counts. -/
theorem slab_even (x0 x1 x2 x3 x4 x5 x6 x7 : Vec Ideal S1x512x1024 .f32) (c : Fin 1024) :
    slab x0 x1 x2 x3 x4 x5 x6 x7 (ix3 0 0 c)
      = blockCounts x0 (ix2 0 c) + blockCounts x1 (ix2 0 c) + blockCounts x2 (ix2 0 c) + blockCounts x3 (ix2 0 c) := by
  unfold slab k0_pay3
  refine (shapeCast_apply (s := S2x1024) (t := S1x2x1024) _ _ (ix3 0 0 c) (ix2 0 c) ?_).trans ?_
  · rw [Shape.rowMajor_val_two, Shape.rowMajor_val_three]
    show 0 * 1024 + c.val = (0 * 2 + 0) * 1024 + c.val
    omega
  · refine (concatenate_pair_apply_left (s₁ := S1x1024) (s₂ := S1x1024) (t := S2x1024) 0 _ _ _ _ rfl (ix2 0 c) (fun b => ?_)).trans rfl
    match b with
    | ⟨0, _⟩ => rfl
    | ⟨1, _⟩ => rfl

/-- The second adds up its last four. -/
theorem slab_odd (x0 x1 x2 x3 x4 x5 x6 x7 : Vec Ideal S1x512x1024 .f32) (c : Fin 1024) :
    slab x0 x1 x2 x3 x4 x5 x6 x7 (ix3 0 1 c)
      = blockCounts x4 (ix2 0 c) + blockCounts x5 (ix2 0 c) + blockCounts x6 (ix2 0 c) + blockCounts x7 (ix2 0 c) := by
  unfold slab k0_pay3
  refine (shapeCast_apply (s := S2x1024) (t := S1x2x1024) _ _ (ix3 0 1 c) (ix2 1 c) ?_).trans ?_
  · rw [Shape.rowMajor_val_two, Shape.rowMajor_val_three]
    show 1 * 1024 + c.val = (0 * 2 + 1) * 1024 + c.val
    omega
  · refine (concatenate_pair_apply_right (s₁ := S1x1024) (s₂ := S1x1024) (t := S2x1024) 0 _ _ _ _ rfl rfl (ix2 0 c) (fun b hb => ?_) rfl).trans rfl
    match b with
    | ⟨0, _⟩ => exact absurd rfl hb
    | ⟨1, _⟩ => rfl

/-- The complete counts, as an array of batch rows and classes, are the tallies. -/
theorem counts_apply (p : Vec Ideal S32x2048x1024 .f32) (b : Fin 32) (c : Fin 1024) :
    shapeCast S32x1024 (totalOf p) shapeCasts_S16x2x1024_S32x1024 (ix2 b c) = tally p b c := by
  have hb := b.isLt
  have ht : b.val / 2 < cfg0.N := Nat.lt_of_lt_of_eq (by omega) N_0.symm
  rcases Nat.mod_two_eq_zero_or_one b.val with h | h
  · refine (shapeCast_apply (s := S16x2x1024) (t := S32x1024) _ _ (ix2 b c) (ix3 ⟨b.val / 2, by omega⟩ 0 c) ?_).trans ?_
    · rw [Shape.rowMajor_val_two, Shape.rowMajor_val_three]
      show (b.val / 2 * 2 + 0) * 1024 + c.val = b.val * 1024 + c.val
      omega
    · show slabOf p ⟨b.val / 2, ht⟩ (ix3 0 0 c) = _
      unfold slabOf
      rw [slab_even, chunks_count]
      exact congrArg (tally p · c) (Fin.ext (by show 2 * (b.val / 2) = b.val; omega))
  · refine (shapeCast_apply (s := S16x2x1024) (t := S32x1024) _ _ (ix2 b c) (ix3 ⟨b.val / 2, by omega⟩ 1 c) ?_).trans ?_
    · rw [Shape.rowMajor_val_two, Shape.rowMajor_val_three]
      show (b.val / 2 * 2 + 1) * 1024 + c.val = b.val * 1024 + c.val
      omega
    · show slabOf p ⟨b.val / 2, ht⟩ (ix3 0 1 c) = _
      unfold slabOf
      rw [slab_odd, chunks_count]
      exact congrArg (tally p · c) (Fin.ext (by show 2 * (b.val / 2) + 1 = b.val; omega))

/-! ## Sums over batch rows and classes -/

/-- The sum the kernel takes of an array of batch rows and classes. -/
theorem sum_all (v : IVec S32x1024 32) :
    extractAt ![0, 0, 0] (shapeCast S1x1x1 (multiReductionI .add [1, 2] S1 (shapeCast S1x32x1024 v shapeCasts_S32x1024_S1x32x1024) 0#32
      reduces_S1x32x1024_S1 rfl) shapeCasts_S1_S1x1x1) inpos_S1x1x1_p0_0_0 = ∑ b : Fin 32, ∑ c : Fin 1024, v (ix2 b c) := by
  have hy : ∀ z : S1.Idx, z = ix1 0 := fun z => (eq_ix1 z).trans (congrArg ix1 (Subsingleton.elim (α := Fin 1) _ _))
  have e : ∀ v : IVec S1 32, extractAt ![0, 0, 0] (shapeCast S1x1x1 v shapeCasts_S1_S1x1x1) inpos_S1x1x1_p0_0_0 = v (ix1 0) :=
    fun v => congrArg v (hy _)
  refine (e _).trans ((add_eq_sum _ _ _ _).trans ?_)
  rw [← Fintype.sum_prod_type' (f := fun (b : Fin 32) (c : Fin 1024) => v (ix2 b c))]
  refine Finset.sum_nbij' (fun i => ((i 1, i 2) : Fin 32 × Fin 1024)) (fun x => (ix3 0 x.1 x.2 : S1x32x1024.Idx)) (fun _ _ => Finset.mem_univ _) ?_ ?_ ?_ ?_
  · intro x _
    exact Finset.mem_filter.2 ⟨Finset.mem_univ _, hy _⟩
  · intro i _
    refine Eq.trans ?_ (eq_ix3 i).symm
    rw [show i 0 = (0 : Fin 1) from Subsingleton.elim (α := Fin 1) _ _]
    rfl
  · intro x _; rfl
  · intro i _
    refine shapeCast_apply (s := S32x1024) (t := S1x32x1024) _ shapeCasts_S32x1024_S1x32x1024 i (ix2 (i 1) (i 2)) ?_
    rw [Shape.rowMajor_val_two, Shape.rowMajor_val_three]
    have h0 : (i 0).val = 0 := by have h : (i 0).val < 1 := (i 0).isLt; omega
    show (i 1).val * 1024 + (i 2).val = ((i 0).val * 32 + (i 1).val) * 1024 + (i 2).val
    omega

/-- The class number of an element, as a word. -/
theorem class_word (b : Fin 32) (c : Fin 1024) : iota .tc S32x1024 32 [1] iota_S32x1024_d1_w32 (ix2 b c) = BitVec.ofNat 32 c.val := by
  show BitVec.ofNat 32 (0 * 1024 + c.val) = _
  rw [Nat.zero_mul, Nat.zero_add]

/-- Choosing on the classes from 1 on, -/
theorem select_later (v z : IVec S32x1024 32) (b : Fin 32) (c : Fin 1024) :
    select (cmpi .sge (iota .tc S32x1024 32 [1] iota_S32x1024_d1_w32) (broadcast S32x1024 1#32)) v z (ix2 b c)
      = if c = 0 then z (ix2 b c) else v (ix2 b c) := by
  rw [select_apply]
  have e : cmpi .sge (iota .tc S32x1024 32 [1] iota_S32x1024_d1_w32) (broadcast S32x1024 1#32) (ix2 b c)
      = BitVec.ofBool ((1#32).sle (BitVec.ofNat 32 c.val)) := by rw [← class_word b c]; rfl
  rw [e]
  by_cases h : c = 0
  · rw [if_pos h, h]; rfl
  · have hc : c.val ≠ 0 := fun h' => h (Fin.ext h')
    have hs : (1#32).sle (BitVec.ofNat 32 c.val) = true := by
      rw [BitVec.sle_iff_toInt_le, column_toInt, show (1#32 : BitVec 32).toInt = 1 from by decide]; omega
    rw [if_neg h, hs]; rfl

/-- and on class 0. -/
theorem select_zeroth (v z : IVec S32x1024 32) (b : Fin 32) (c : Fin 1024) :
    select (cmpi .eq (iota .tc S32x1024 32 [1] iota_S32x1024_d1_w32) (broadcast S32x1024 0#32)) v z (ix2 b c)
      = if c = 0 then v (ix2 b c) else z (ix2 b c) := by
  rw [select_apply]
  have e : cmpi .eq (iota .tc S32x1024 32 [1] iota_S32x1024_d1_w32) (broadcast S32x1024 0#32) (ix2 b c)
      = BitVec.ofBool (BitVec.ofNat 32 c.val == 0#32) := by rw [← class_word b c]; rfl
  rw [e]
  by_cases h : c = 0
  · rw [if_pos h, h]; rfl
  · have hs : (BitVec.ofNat 32 c.val == 0#32) = false := beq_eq_false_iff_ne.2 fun e => h (column_inj (d := 0) e)
    rw [if_neg h, hs]; rfl

/-- The sum of an array's entries at the classes from 1 on, -/
theorem sum_later (v z : IVec S32x1024 32) (hz : ∀ i, z i = 0#32) :
    (∑ b : Fin 32, ∑ c : Fin 1024, select (cmpi .sge (iota .tc S32x1024 32 [1] iota_S32x1024_d1_w32) (broadcast S32x1024 1#32)) v z (ix2 b c))
      = ∑ b : Fin 32, ∑ c : Fin 1023, v (ix2 b c.succ) := by
  refine Finset.sum_congr rfl fun b _ => ?_
  rw [Fin.sum_univ_succ, select_later, if_pos rfl, hz]
  refine (zero_add _).trans (Finset.sum_congr rfl fun c _ => ?_)
  rw [select_later, if_neg (Fin.succ_ne_zero c)]

/-- and at class 0. -/
theorem sum_zeroth (v z : IVec S32x1024 32) (hz : ∀ i, z i = 0#32) :
    (∑ b : Fin 32, ∑ c : Fin 1024, select (cmpi .eq (iota .tc S32x1024 32 [1] iota_S32x1024_d1_w32) (broadcast S32x1024 0#32)) v z (ix2 b c))
      = ∑ b : Fin 32, v (ix2 b 0) := by
  refine Finset.sum_congr rfl fun b _ => ?_
  rw [Fin.sum_univ_succ, select_zeroth, if_pos rfl]
  have e : ∀ c : Fin 1023, select (cmpi .eq (iota .tc S32x1024 32 [1] iota_S32x1024_d1_w32) (broadcast S32x1024 0#32)) v z (ix2 b c.succ) = 0 := fun c => by
    rw [select_zeroth, if_neg (Fin.succ_ne_zero c)]; exact hz _
  rw [Finset.sum_eq_zero fun c _ => e c, add_zero]

/-! ## The result -/

/-- The last operations form the quotient of two differences. -/
theorem quotient_apply (A B C : BitVec 32) (y : S1x1.Idx) :
    divf (F := Ideal) (sitofp .f32 (subi (broadcast S1x1 A) (broadcast S1x1 B)))
        (addf (sitofp .f32 (subi (broadcast S1x1 65536#32) (broadcast S1x1 C))) (broadcast S1x1 (FloatOps.ofBits .f32 0x358637BD#32))) y
      = quotient (A - B) (65536#32 - C) := rfl

/-- The kernel's result is the quotient of the labels' and tallies' words. -/
theorem answer_apply (p : Vec Ideal S32x2048x1024 .f32) (l : IVec S32x1024 32) (y : S1x1.Idx) :
    answer p l y = quotient (numerator (fun b c => l (ix2 b c)) (tally p)) (denominator (tally p)) := by
  have e1 := (sum_all _).trans (sum_later l (broadcast S32x1024 0#32) fun _ => rfl)
  have e2 := (sum_all _).trans (sum_later (maxsi (subi l (shapeCast S32x1024 (totalOf p) shapeCasts_S16x2x1024_S32x1024)) (broadcast S32x1024 0#32))
    (broadcast S32x1024 0#32) fun _ => rfl)
  have e3 := (sum_all _).trans (sum_zeroth (shapeCast S32x1024 (totalOf p) shapeCasts_S16x2x1024_S32x1024) (broadcast S32x1024 0#32) fun _ => rfl) |>.trans
    (Finset.sum_congr rfl fun b _ => counts_apply p b 0)
  have e2' : ∀ (b : Fin 32) (c : Fin 1023),
      maxsi (subi l (shapeCast S32x1024 (totalOf p) shapeCasts_S16x2x1024_S32x1024)) (broadcast S32x1024 0#32) (ix2 b c.succ)
        = IntOp.maxsi (l (ix2 b c.succ) - tally p b c.succ) 0#32 := fun b c => by
    rw [← counts_apply]; rfl
  simp only [e2'] at e2
  unfold answer k0_pay4
  refine (quotient_apply _ _ _ y).trans ?_
  unfold numerator denominator
  exact congrArg₂ quotient (congrArg₂ (· - ·) e1 e2) (congrArg (65536#32 - ·) e3)

end Cert.KernelIdeal.Hand

end
-- ==== Proof.ReferenceIdeal.Run.lean ====
/- The run of `ReferenceIdeal`: the reference is a straight line of host operations, so every run ends with each buffer at
   the operations' results; the result buffer holds `answer` of the two arguments. -/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## What the reference computes -/

/-- The indices a reduction of pairs by the reducer gives, its values dropped: at any shapes. -/
def indices {s t u : Shape} {axes : List (Fin s.rank)} (h : s.ReducesTo axes t) (hu : 0 < u.numel) (x : FVec F s .f32) (y : IVec s 32)
    (ix : FVec F u .f32) (iy : IVec u 32) : IVec t 32 :=
  fun j => (Host.argReduce reducer_argmax_f32_i32 x y ix iy h hu j).2

/-- The predicted class of each position: the first index of each row's maximum. -/
def classes (p : Vec F S32x2048x1024 .f32) : IVec S32x2048 32 :=
  indices reducesTo_S32x2048x1024_S32x2048_d2 h_S_ p (iotaInDim S32x2048x1024 32 2) (constant S_ .f32 0xFF800000#32) (constantI S_ 32 0#32)

/-- An index with a negative one moved up by the extent: the batch indices, one per batch row. -/
def batchIndex : IVec S32x1 32 :=
  let i : IVec S32x1 32 := broadcastInDim S32x1 ![0] bcast_S32_S32x1_0 (iotaInDim S32 32 0)
  select (cmpi .slt i (broadcastInDim S32x1 ![] bcast_S_S32x1 (constantI S_ 32 0#32)))
    (addi i (broadcastInDim S32x1 ![] bcast_S_S32x1 (constantI S_ 32 32#32))) i

/-- The same for the class indices. -/
def classIndex (k : IVec S32x2048 32) : IVec S32x2048 32 :=
  select (cmpi .slt k (broadcastInDim S32x2048 ![] bcast_S_S32x2048 (constantI S_ 32 0#32)))
    (addi k (broadcastInDim S32x2048 ![] bcast_S_S32x2048 (constantI S_ 32 1024#32))) k

/-- The pair of indices each position adds one at. -/
def pairs (k : IVec S32x2048 32) : IVec S32x2048x2 32 :=
  concatenate S32x2048x2 2
    [⟨S32x2048x1, broadcastInDim S32x2048x1 ![0, 1] bcast_S32x2048_S32x2048x1_0_1 (broadcastInDim S32x2048 ![0, 1] bcast_S32x1_S32x2048_0_1 batchIndex)⟩,
      ⟨S32x2048x1, broadcastInDim S32x2048x1 ![0, 1] bcast_S32x2048_S32x2048x1_0_1 (classIndex k)⟩]
    concatenates_S32x2048x1_S32x2048x1_S32x2048x2_d2

/-- How often each class is predicted in each batch row. -/
def counts (k : IVec S32x2048 32) : IVec S32x1024 32 :=
  Host.scatter scatter_S32x1024_S32x2048x2_S32x2048_n_01_01_2 IntOp.addi
    (broadcastInDim S32x1024 ![] bcast_S_S32x1024 (constantI S_ 32 0#32)) (pairs k)
    (broadcastInDim S32x2048 ![] bcast_S_S32x2048 (constantI S_ 32 1#32))

/-- The sum of the labels of every class but the first. -/
def labelSum (l : IVec S32x1024 32) : IVec S_ 32 :=
  Host.reduce IntOp.addi (extractStridedSlice S32x1023 ![0, 1] l slices_S32x1024_S32x1023_0_1) (constantI S_ 32 0#32) reducesTo_S32x1023_S_d0_1 h_S_

/-- The sum, over every class but the first, of what a label exceeds its count by. -/
def missed (l n : IVec S32x1024 32) : IVec S_ 32 :=
  Host.reduce IntOp.addi
    (maxsi (subi (extractStridedSlice S32x1023 ![0, 1] l slices_S32x1024_S32x1023_0_1) (extractStridedSlice S32x1023 ![0, 1] n slices_S32x1024_S32x1023_0_1))
      (broadcastInDim S32x1023 ![] bcast_S_S32x1023 (constantI S_ 32 0#32)))
    (constantI S_ 32 0#32) reducesTo_S32x1023_S_d0_1 h_S_

/-- How many positions have a predicted class other than the first. -/
def nonzero (k : IVec S32x2048 32) : IVec S_ 32 :=
  Host.reduce IntOp.addi (extui 32 (cmpi .ne k (broadcastInDim S32x2048 ![] bcast_S_S32x2048 (constantI S_ 32 0#32))) natLt_1_32)
    (constantI S_ 32 0#32) reducesTo_S32x2048_S_d0_1 h_S_

/-- The reference's result. -/
def answer (p : Vec F S32x2048x1024 .f32) (l : IVec S32x1024 32) : Vec F S_ .f32 :=
  Host.divf (sitofp .f32 (subi (labelSum l) (missed l (counts (classes p)))))
    (addf (sitofp .f32 (nonzero (classes p))) (constant S_ .f32 0x358637BD#32))

/-! ## The run -/

/-- The sum of the labels. -/
abbrev opsLabels : List (HloOp τ sig (Elt F)) :=
  [ unary main_arg1 main_v0 ((extractStridedSlice S32x1023 ![0, 1] · slices_S32x1024_S32x1023_0_1) : (⟨S32x1024, .i32⟩ : BufTy).Contents (Elt F) → (⟨S32x1023, .i32⟩ : BufTy).Contents (Elt F)),
    nullary main_c (constantI S_ 32 0#32),
    binary main_v0 main_c main_v1 ((fun x v => Host.reduce IntOp.addi x v reducesTo_S32x1023_S_d0_1 h_S_) : (⟨S32x1023, .i32⟩ : BufTy).Contents (Elt F) → (⟨S_, .i32⟩ : BufTy).Contents (Elt F) → (⟨S_, .i32⟩ : BufTy).Contents (Elt F)) ]

/-- The predicted classes. -/
abbrev opsClasses : List (HloOp τ sig (Elt F)) :=
  [ nullary main_call0_v0 (iotaInDim S32x2048x1024 32 2),
    nullary main_call0_cst (constant S_ .f32 0xFF800000#32),
    nullary main_call0_c (constantI S_ 32 0#32),
    quaternary main_arg0 main_call0_v0 main_call0_cst main_call0_c main_call0_v1_0 ((fun x y u v j => (Host.argReduce reducer_argmax_f32_i32 x y u v reducesTo_S32x2048x1024_S32x2048_d2 h_S_ j).1) : (⟨S32x2048x1024, .f32⟩ : BufTy).Contents (Elt F) → (⟨S32x2048x1024, .i32⟩ : BufTy).Contents (Elt F) → (⟨S_, .f32⟩ : BufTy).Contents (Elt F) → (⟨S_, .i32⟩ : BufTy).Contents (Elt F) → (⟨S32x2048, .f32⟩ : BufTy).Contents (Elt F)),
    quaternary main_arg0 main_call0_v0 main_call0_cst main_call0_c main_v2 ((fun x y u v j => (Host.argReduce reducer_argmax_f32_i32 x y u v reducesTo_S32x2048x1024_S32x2048_d2 h_S_ j).2) : (⟨S32x2048x1024, .f32⟩ : BufTy).Contents (Elt F) → (⟨S32x2048x1024, .i32⟩ : BufTy).Contents (Elt F) → (⟨S_, .f32⟩ : BufTy).Contents (Elt F) → (⟨S_, .i32⟩ : BufTy).Contents (Elt F) → (⟨S32x2048, .i32⟩ : BufTy).Contents (Elt F)) ]

/-- The counts and what they miss. -/
abbrev opsCounts : List (HloOp τ sig (Elt F)) :=
  [ nullary main_c_0 (constantI S_ 32 0#32),
    unary main_c_0 main_v3 (broadcastInDim S32x1024 ![] bcast_S_S32x1024 : (⟨S_, .i32⟩ : BufTy).Contents (Elt F) → (⟨S32x1024, .i32⟩ : BufTy).Contents (Elt F)),
    nullary main_v4 (iotaInDim S32 32 0),
    unary main_v4 main_v5 (broadcastInDim S32x1 ![0] bcast_S32_S32x1_0 : (⟨S32, .i32⟩ : BufTy).Contents (Elt F) → (⟨S32x1, .i32⟩ : BufTy).Contents (Elt F)),
    nullary main_c_1 (constantI S_ 32 1#32),
    unary main_c_1 main_v6 (broadcastInDim S32x2048 ![] bcast_S_S32x2048 : (⟨S_, .i32⟩ : BufTy).Contents (Elt F) → (⟨S32x2048, .i32⟩ : BufTy).Contents (Elt F)),
    nullary main_c_2 (constantI S_ 32 0#32),
    unary main_c_2 main_v7 (broadcastInDim S32x1 ![] bcast_S_S32x1 : (⟨S_, .i32⟩ : BufTy).Contents (Elt F) → (⟨S32x1, .i32⟩ : BufTy).Contents (Elt F)),
    binary main_v5 main_v7 main_v8 (cmpi .slt : (⟨S32x1, .i32⟩ : BufTy).Contents (Elt F) → (⟨S32x1, .i32⟩ : BufTy).Contents (Elt F) → (⟨S32x1, .i1⟩ : BufTy).Contents (Elt F)),
    nullary main_c_3 (constantI S_ 32 32#32),
    unary main_c_3 main_v9 (broadcastInDim S32x1 ![] bcast_S_S32x1 : (⟨S_, .i32⟩ : BufTy).Contents (Elt F) → (⟨S32x1, .i32⟩ : BufTy).Contents (Elt F)),
    binary main_v5 main_v9 main_v10 (addi : (⟨S32x1, .i32⟩ : BufTy).Contents (Elt F) → (⟨S32x1, .i32⟩ : BufTy).Contents (Elt F) → (⟨S32x1, .i32⟩ : BufTy).Contents (Elt F)),
    ternary main_v8 main_v10 main_v5 main_v11 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_4 (constantI S_ 32 0#32),
    unary main_c_4 main_v12 (broadcastInDim S32x2048 ![] bcast_S_S32x2048 : (⟨S_, .i32⟩ : BufTy).Contents (Elt F) → (⟨S32x2048, .i32⟩ : BufTy).Contents (Elt F)),
    binary main_v2 main_v12 main_v13 (cmpi .slt : (⟨S32x2048, .i32⟩ : BufTy).Contents (Elt F) → (⟨S32x2048, .i32⟩ : BufTy).Contents (Elt F) → (⟨S32x2048, .i1⟩ : BufTy).Contents (Elt F)),
    nullary main_c_5 (constantI S_ 32 1024#32),
    unary main_c_5 main_v14 (broadcastInDim S32x2048 ![] bcast_S_S32x2048 : (⟨S_, .i32⟩ : BufTy).Contents (Elt F) → (⟨S32x2048, .i32⟩ : BufTy).Contents (Elt F)),
    binary main_v2 main_v14 main_v15 (addi : (⟨S32x2048, .i32⟩ : BufTy).Contents (Elt F) → (⟨S32x2048, .i32⟩ : BufTy).Contents (Elt F) → (⟨S32x2048, .i32⟩ : BufTy).Contents (Elt F)),
    ternary main_v13 main_v15 main_v2 main_v16 (select : (⟨S32x2048, .i1⟩ : BufTy).Contents (Elt F) → (⟨S32x2048, .i32⟩ : BufTy).Contents (Elt F) → (⟨S32x2048, .i32⟩ : BufTy).Contents (Elt F) → (⟨S32x2048, .i32⟩ : BufTy).Contents (Elt F)),
    unary main_v11 main_v17 (broadcastInDim S32x2048 ![0, 1] bcast_S32x1_S32x2048_0_1 : (⟨S32x1, .i32⟩ : BufTy).Contents (Elt F) → (⟨S32x2048, .i32⟩ : BufTy).Contents (Elt F)),
    unary main_v17 main_v18 (broadcastInDim S32x2048x1 ![0, 1] bcast_S32x2048_S32x2048x1_0_1 : (⟨S32x2048, .i32⟩ : BufTy).Contents (Elt F) → (⟨S32x2048x1, .i32⟩ : BufTy).Contents (Elt F)),
    unary main_v16 main_v19 (broadcastInDim S32x2048x1 ![0, 1] bcast_S32x2048_S32x2048x1_0_1 : (⟨S32x2048, .i32⟩ : BufTy).Contents (Elt F) → (⟨S32x2048x1, .i32⟩ : BufTy).Contents (Elt F)),
    binary main_v18 main_v19 main_v20 ((fun a b => concatenate S32x2048x2 2 [⟨S32x2048x1, a⟩, ⟨S32x2048x1, b⟩] concatenates_S32x2048x1_S32x2048x1_S32x2048x2_d2) : (⟨S32x2048x1, .i32⟩ : BufTy).Contents (Elt F) → (⟨S32x2048x1, .i32⟩ : BufTy).Contents (Elt F) → (⟨S32x2048x2, .i32⟩ : BufTy).Contents (Elt F)),
    ternary main_v3 main_v20 main_v6 main_v21 ((fun x i u => Host.scatter scatter_S32x1024_S32x2048x2_S32x2048_n_01_01_2 IntOp.addi x i u) : (⟨S32x1024, .i32⟩ : BufTy).Contents (Elt F) → (⟨S32x2048x2, .i32⟩ : BufTy).Contents (Elt F) → (⟨S32x2048, .i32⟩ : BufTy).Contents (Elt F) → (⟨S32x1024, .i32⟩ : BufTy).Contents (Elt F)),
    unary main_arg1 main_v22 ((extractStridedSlice S32x1023 ![0, 1] · slices_S32x1024_S32x1023_0_1) : (⟨S32x1024, .i32⟩ : BufTy).Contents (Elt F) → (⟨S32x1023, .i32⟩ : BufTy).Contents (Elt F)),
    unary main_v21 main_v23 ((extractStridedSlice S32x1023 ![0, 1] · slices_S32x1024_S32x1023_0_1) : (⟨S32x1024, .i32⟩ : BufTy).Contents (Elt F) → (⟨S32x1023, .i32⟩ : BufTy).Contents (Elt F)),
    binary main_v22 main_v23 main_v24 (subi : (⟨S32x1023, .i32⟩ : BufTy).Contents (Elt F) → (⟨S32x1023, .i32⟩ : BufTy).Contents (Elt F) → (⟨S32x1023, .i32⟩ : BufTy).Contents (Elt F)),
    nullary main_c_6 (constantI S_ 32 0#32),
    unary main_c_6 main_v25 (broadcastInDim S32x1023 ![] bcast_S_S32x1023 : (⟨S_, .i32⟩ : BufTy).Contents (Elt F) → (⟨S32x1023, .i32⟩ : BufTy).Contents (Elt F)),
    binary main_v24 main_v25 main_v26 (maxsi : (⟨S32x1023, .i32⟩ : BufTy).Contents (Elt F) → (⟨S32x1023, .i32⟩ : BufTy).Contents (Elt F) → (⟨S32x1023, .i32⟩ : BufTy).Contents (Elt F)),
    nullary main_c_7 (constantI S_ 32 0#32),
    binary main_v26 main_c_7 main_v27 ((fun x v => Host.reduce IntOp.addi x v reducesTo_S32x1023_S_d0_1 h_S_) : (⟨S32x1023, .i32⟩ : BufTy).Contents (Elt F) → (⟨S_, .i32⟩ : BufTy).Contents (Elt F) → (⟨S_, .i32⟩ : BufTy).Contents (Elt F)) ]

/-- How many predicted classes are nonzero. -/
abbrev opsNonzero : List (HloOp τ sig (Elt F)) :=
  [ nullary main_call1_c (constantI S_ 32 0#32),
    unary main_call1_c main_call1_v0 (broadcastInDim S32x2048 ![] bcast_S_S32x2048 : (⟨S_, .i32⟩ : BufTy).Contents (Elt F) → (⟨S32x2048, .i32⟩ : BufTy).Contents (Elt F)),
    binary main_v2 main_call1_v0 main_call1_v1 (cmpi .ne : (⟨S32x2048, .i32⟩ : BufTy).Contents (Elt F) → (⟨S32x2048, .i32⟩ : BufTy).Contents (Elt F) → (⟨S32x2048, .i1⟩ : BufTy).Contents (Elt F)),
    unary main_call1_v1 main_call1_v2 ((extui 32 · natLt_1_32) : (⟨S32x2048, .i1⟩ : BufTy).Contents (Elt F) → (⟨S32x2048, .i32⟩ : BufTy).Contents (Elt F)),
    nullary main_call1_c_0 (constantI S_ 32 0#32),
    binary main_call1_v2 main_call1_c_0 main_v28 ((fun x v => Host.reduce IntOp.addi x v reducesTo_S32x2048_S_d0_1 h_S_) : (⟨S32x2048, .i32⟩ : BufTy).Contents (Elt F) → (⟨S_, .i32⟩ : BufTy).Contents (Elt F) → (⟨S_, .i32⟩ : BufTy).Contents (Elt F)) ]

/-- The quotient. -/
abbrev opsAnswer : List (HloOp τ sig (Elt F)) :=
  [ binary main_v1 main_v27 main_v29 (subi : (⟨S_, .i32⟩ : BufTy).Contents (Elt F) → (⟨S_, .i32⟩ : BufTy).Contents (Elt F) → (⟨S_, .i32⟩ : BufTy).Contents (Elt F)),
    unary main_v28 main_v30 (sitofp .f32 : (⟨S_, .i32⟩ : BufTy).Contents (Elt F) → (⟨S_, .f32⟩ : BufTy).Contents (Elt F)),
    nullary main_cst (constant S_ .f32 0x358637BD#32),
    binary main_v30 main_cst main_v31 (addf : (⟨S_, .f32⟩ : BufTy).Contents (Elt F) → (⟨S_, .f32⟩ : BufTy).Contents (Elt F) → (⟨S_, .f32⟩ : BufTy).Contents (Elt F)),
    unary main_v29 main_v32 (sitofp .f32 : (⟨S_, .i32⟩ : BufTy).Contents (Elt F) → (⟨S_, .f32⟩ : BufTy).Contents (Elt F)),
    binary main_v32 main_v31 main_v33 (Host.divf : (⟨S_, .f32⟩ : BufTy).Contents (Elt F) → (⟨S_, .f32⟩ : BufTy).Contents (Elt F) → (⟨S_, .f32⟩ : BufTy).Contents (Elt F)) ]

/-- The program's operations, in order. -/
abbrev ops : List (HloOp τ sig (Elt F)) := opsLabels ++ (opsClasses ++ (opsCounts ++ (opsNonzero ++ opsAnswer)))

/-- The call that predicts the classes is its straight line. -/
theorem classes_line : fn_argmax.body (F := F) (.of main_arg0) main_call0 = seq opsClasses := rfl

/-- The call's last operation, whatever function it applies, as an operation on the buffers themselves. -/
theorem last_op (f : (⟨S32x2048, .i32⟩ : BufTy).Contents (Elt F) → (⟨S_, .i32⟩ : BufTy).Contents (Elt F) → (⟨S_, .i32⟩ : BufTy).Contents (Elt F)) :
    (TRef.binary main_call1.v2 main_call1.c_0 main_call1.v3 f : HloOp τ sig (Elt F)) = binary main_call1_v2 main_call1_c_0 main_v28 f := rfl

/-- The call that counts the nonzero classes is its straight line. -/
theorem nonzero_line : fn_count_nonzero.body (F := F) (.of main_v2) main_call1 = seq opsNonzero := by
  rw [opsNonzero, ← last_op]
  rfl

/-- The program with its two calls named. -/
theorem main_calls (c : Dev nD) : main (F := F) c
    = seqK opsLabels (fn_argmax.body (.of main_arg0) main_call0 >>= fun _ =>
        seqK opsCounts (fn_count_nonzero.body (.of main_v2) main_call1 >>= fun _ => seq opsAnswer)) := rfl

/-- The program is that straight line. -/
theorem main_eq (c : Dev nD) : main (F := F) c = seq ops := by
  rw [main_calls, classes_line, nonzero_line, ← seq_bind_seqK, ← seq_bind_seqK, ← seq_append, ← seq_append, ← seq_append, ← seq_append]

/-- The operations leave `answer` of the arguments in the result buffer: -/
theorem result_eq (V : Valuation τ sig (Elt F)) :
    after ops V (main_v33 : DevRef τ sig) = answer (V (main_arg0 : DevRef τ sig)) (V (main_arg1 : DevRef τ sig)) := by
  simp only [ops, List.cons_append, List.nil_append]
  after_results
  rfl

/-- and the first argument as it was, -/
theorem arg0_eq (V : Valuation τ sig (Elt F)) :
    after ops V (main_arg0 : DevRef τ sig) = V (main_arg0 : DevRef τ sig) := by
  simp only [ops, List.cons_append, List.nil_append]
  after_results
/-- and the second. -/
theorem arg1_eq (V : Valuation τ sig (Elt F)) :
    after ops V (main_arg1 : DevRef τ sig) = V (main_arg1 : DevRef τ sig) := by
  simp only [ops, List.cons_append, List.nil_append]
  after_results

/-- The program has no scoped buffer, -/
theorem scopedRefs_eq : (Finset.univ.filter fun b : Ref sig .tc => b.isScoped) = ∅ := by decide
/-- and no scoped semaphore. -/
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨unary_bufs_sub .., nullary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., nullary_bufs_sub .., binary_bufs_sub .., binary_bufs_sub .., unary_bufs_sub .., nullary_bufs_sub .., binary_bufs_sub .., unary_bufs_sub .., binary_bufs_sub ..⟩

/-- Every run of the reference ends with `answer` of the arguments in the result buffer, the arguments unchanged and every
    counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v33) = answer (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v33).trans (result_eq _), (h c main_arg0).trans (arg0_eq _),
      (h c main_arg1).trans (arg1_eq _)⟩, sem_eq_zero_of_no_sems (by decide) r.2⟩)
    (run_seq scopedRefs_eq scopedSems_eq defs main (fun _ => ops) main_eq (fun _ => ops_sub) m ρ)

end Cert.ReferenceIdeal.Hand

end
-- ==== Proof.ReferenceIdeal.Counts.lean ====
/- What `ReferenceIdeal` computes over the extended reals, in closed form: its predicted class is the class of the row's
   first maximum, its counts are the tallies, and its result the quotient they give. -/
module

public import proofs.«01_k».proof.Proof.First
public import proofs.«01_k».proof.Proof.ReferenceIdeal.Run
public import Idealize.ShloMosaic.Lib.Pipeline.Value
public import Idealize.ShloMosaic.Lib.ScatterToDense.RefFold

@[expose] public section

set_option maxRecDepth 16384

noncomputable section

namespace Cert.ReferenceIdeal.Hand

open Cert.ReferenceIdeal Cert.ReferenceIdeal.Gen
open Idealize.ShloMosaic Idealize.ShloMosaic.ValueIdx Cert.Counting

/-! ## The predicted classes -/

/-- The pair reducer keeps its first pair when the value there is the larger, or the values agree and the index there is
    the smaller. -/
theorem reducer_eq (a b : EReal × BitVec 32) :
    reducer_argmax_f32_i32 (F := Ideal) a b = if b.1 < a.1 ∨ (a.1 = b.1 ∧ a.2.toInt < b.2.toInt) then a else b := by
  have h2 : FloatOps.cmpf (F := Ideal) (φ := .f32) .ogt a.1 b.1 = BitVec.ofBool (decide (b.1 < a.1)) := rfl
  have h3 : FloatOps.cmpf (F := Ideal) (φ := .f32) .une a.1 a.1 = 0#1 := by
    show BitVec.ofBool (decide (a.1 ≠ a.1)) = _
    rw [decide_eq_false (fun h => h rfl)]; rfl
  have h5 : FloatOps.cmpf (F := Ideal) (φ := .f32) .oeq a.1 b.1 = BitVec.ofBool (decide (a.1 = b.1)) := rfl
  have h6 : IntOp.cmpi .slt a.2 b.2 = BitVec.ofBool (decide (a.2.toInt < b.2.toInt)) := rfl
  unfold reducer_argmax_f32_i32
  simp only [h2, h3, h5, h6]
  obtain ⟨a1, a2⟩ := a
  obtain ⟨b1, b2⟩ := b
  dsimp only
  by_cases hlt : b1 < a1
  · have hne : ¬a1 = b1 := ne_of_gt hlt
    rw [if_pos (.inl hlt), decide_eq_true hlt, decide_eq_false hne]
    cases decide (a2.toInt < b2.toInt) <;> rfl
  · by_cases heq : a1 = b1
    · subst heq
      by_cases hs : a2.toInt < b2.toInt
      · rw [if_pos (.inr ⟨rfl, hs⟩), decide_eq_false hlt, decide_eq_true rfl, decide_eq_true hs]; rfl
      · rw [if_neg (by rintro (h | h); exacts [hlt h, hs h.2]), decide_eq_false hlt, decide_eq_true rfl, decide_eq_false hs]; rfl
    · rw [if_neg (by rintro (h | h); exacts [hlt h, heq h.1]), decide_eq_false hlt, decide_eq_false heq]
      cases decide (a2.toInt < b2.toInt) <;> rfl

/-- One pair comes before another: a larger value, or the same value at no larger an index. -/
def before (a b : EReal × BitVec 32) : Prop := b.1 < a.1 ∨ (a.1 = b.1 ∧ a.2.toInt ≤ b.2.toInt)

/-- A pair comes before itself, -/
theorem before_refl (a : EReal × BitVec 32) : before a a := .inr ⟨rfl, le_refl _⟩

/-- and before what those it comes before do. -/
theorem before_trans (a b c : EReal × BitVec 32) (h : before a b) (h' : before b c) : before a c := by
  rcases h with h | ⟨h, k⟩ <;> rcases h' with h' | ⟨h', k'⟩
  · exact .inl (h'.trans h)
  · exact .inl (h' ▸ h)
  · exact .inl (h ▸ h')
  · exact .inr ⟨h.trans h', k.trans k'⟩

/-- The reducer's result comes before both pairs. -/
theorem reducer_before (a b : EReal × BitVec 32) :
    before (reducer_argmax_f32_i32 (F := Ideal) a b) a ∧ before (reducer_argmax_f32_i32 (F := Ideal) a b) b := by
  rw [reducer_eq]
  split
  · next h => exact ⟨before_refl a, h.imp id fun h => ⟨h.1, h.2.le⟩⟩
  · next h =>
    refine ⟨?_, before_refl b⟩
    rcases lt_trichotomy a.1 b.1 with h' | h' | h'
    · exact .inl h'
    · exact .inr ⟨h'.symm, not_lt.1 fun h'' => h (.inr ⟨h', h''⟩)⟩
    · exact absurd (.inl h') h

/-- An index of the scores lies over a position exactly when it is at that position. -/
theorem drop_class (i : S32x2048x1024.Idx) (b : Fin 32) (s : Fin 2048) :
    reducesTo_S32x2048x1024_S32x2048_d2.drop i = ix2 b s ↔ ∃ c : Fin 1024, i = ix3 b s c := by
  constructor
  · intro h
    refine ⟨i 2, (eq_ix3 i).trans ?_⟩
    have h0 : i 0 = b := congrFun h 0
    have h1 : i 1 = s := congrFun h 1
    rw [h0, h1]
    rfl
  · rintro ⟨c, rfl⟩
    funext a
    match a with
    | ⟨0, _⟩ => rfl
    | ⟨1, _⟩ => rfl

/-- A pair of an element and its index, or the least value and index 0, that comes before every element's pair has the
    index of the row's first maximum. -/
theorem first_of_before (v : Fin 1024 → EReal) (R : EReal × BitVec 32)
    (h : R = (⊥, 0#32) ∨ ∃ c : Fin 1024, R = (v c, BitVec.ofNat 32 c.val)) (hb : ∀ d : Fin 1024, before R (v d, BitVec.ofNat 32 d.val)) :
    ∃ c : Fin 1024, IsFirst v c ∧ R.2 = BitVec.ofNat 32 c.val := by
  rcases h with hR | ⟨c, hR⟩
  · have hv : ∀ d, v d = ⊥ := fun d => by
      rcases hb d with h | ⟨h, -⟩
      · rw [hR] at h; exact absurd h not_lt_bot
      · rw [hR] at h; exact h.symm
    refine ⟨0, ⟨fun d => ?_, fun d _ => Fin.zero_le d⟩, by rw [hR]; rfl⟩
    rw [hv, hv]
  · refine ⟨c, ⟨fun d => ?_, fun d hd => ?_⟩, by rw [hR]⟩
    · rcases hb d with h | ⟨h, -⟩ <;> rw [hR] at h
      exacts [le_of_lt h, le_of_eq h.symm]
    · rcases hb d with h | ⟨-, h⟩ <;> rw [hR] at h
      · exact absurd (hd c) (not_le.2 h)
      · change (BitVec.ofNat 32 c.val).toInt ≤ (BitVec.ofNat 32 d.val).toInt at h
        rw [column_toInt, column_toInt] at h
        exact Fin.le_def.2 (by omega)

/-- The reducer keeps one of its pairs. -/
theorem reducer_or (a b : EReal × BitVec 32) :
    reducer_argmax_f32_i32 (F := Ideal) a b = a ∨ reducer_argmax_f32_i32 (F := Ideal) a b = b := by
  rw [reducer_eq]
  split
  exacts [.inl rfl, .inr rfl]

/-- A reduction of pairs by the reducer, over any array of values and of indices, whose fiber is a row of values with
    their indices: it gives the index of the row's first maximum. -/
theorem reduce_first {s t u : Shape} {axes : List (Fin s.rank)} (h : s.ReducesTo axes t) (hu : 0 < u.numel)
    (x : FVec Ideal s .f32) (y : s.Idx → BitVec 32) (ix : FVec Ideal u .f32) (iy : u.Idx → BitVec 32) (hix : ∀ i, ix i = (⊥ : EReal))
    (hiy : ∀ i, iy i = 0#32) (j : t.Idx) (at' : Fin 1024 → s.Idx) (hat : ∀ i, h.drop i = j ↔ ∃ c, i = at' c)
    (hy : ∀ c, y (at' c) = BitVec.ofNat 32 c.val) :
    ∃ c : Fin 1024, IsFirst (fun c => (x (at' c) : EReal)) c
      ∧ indices h hu x y ix iy j = BitVec.ofNat 32 c.val := by
  unfold indices
  rw [Ideal.argReduce_eq_reduce2]
  obtain ⟨h1, h2⟩ := reduce2_best h hu before before_refl before_trans (reducer_argmax_f32_i32 (F := Ideal)) reducer_or reducer_before x y ix iy j
  refine first_of_before (fun c => x (at' c)) _ (h1.imp (fun e => ?_) ?_) fun d => ?_
  · rw [e, hix, hiy]
  · rintro ⟨i, hi, e⟩
    obtain ⟨c, rfl⟩ := (hat i).1 hi
    exact ⟨c, by rw [e, hy]⟩
  · have := h2 (at' d) ((hat _).2 ⟨d, rfl⟩)
    rwa [hy] at this

/-- The predicted class is that of the row's first maximum. -/
theorem classes_first (p : Vec Ideal S32x2048x1024 .f32) (b : Fin 32) (s : Fin 2048) :
    ∃ c : Fin 1024, IsFirst (line p b s) c ∧ classes p (ix2 b s) = BitVec.ofNat 32 c.val := by
  unfold classes
  exact reduce_first reducesTo_S32x2048x1024_S32x2048_d2 h_S_ p (iotaInDim S32x2048x1024 32 2) (constant (F := Ideal) S_ .f32 0xFF800000#32)
    (constantI S_ 32 0#32) (fun _ => ofBits_negInf) (fun _ => rfl) (ix2 b s) (fun c => ix3 b s c) (fun i => drop_class i b s) (fun _ => rfl)

/-! ## The indices the counts are added at -/

/-- A nonnegative word is left as it is where a negative one would be moved up. -/
theorem select_nonneg (n : Nat) (hn : n < 2 ^ 31) (m : BitVec 32) :
    Scalar.select (IntOp.cmpi .slt (BitVec.ofNat 32 n) 0#32) (IntOp.addi (BitVec.ofNat 32 n) m) (BitVec.ofNat 32 n) = BitVec.ofNat 32 n := by
  have h : (BitVec.ofNat 32 n).toInt = (n : Int) := by
    rw [BitVec.toInt_eq_toNat_of_lt (by rw [BitVec.toNat_ofNat]; omega), BitVec.toNat_ofNat, Nat.mod_eq_of_lt (by omega)]
  have e : IntOp.cmpi .slt (BitVec.ofNat 32 n) 0#32 = 0#1 := by
    show BitVec.ofBool (decide ((BitVec.ofNat 32 n).toInt < (0#32 : BitVec 32).toInt)) = _
    rw [decide_eq_false (by rw [h, show (0#32 : BitVec 32).toInt = 0 from by decide]; omega)]; rfl
  rw [e]; rfl

/-- A batch row's index is its number. -/
theorem batchIndex_apply (b : Fin 32) : batchIndex (ix2 b 0) = BitVec.ofNat 32 b.val :=
  select_nonneg b.val (by have := b.isLt; omega) 32#32

/-- A class's index is the class. -/
theorem classIndex_apply (k : IVec S32x2048 32) (b : Fin 32) (s : Fin 2048) (c : Fin 1024) (h : k (ix2 b s) = BitVec.ofNat 32 c.val) :
    classIndex k (ix2 b s) = BitVec.ofNat 32 c.val := by
  have e : classIndex k (ix2 b s) = Scalar.select (IntOp.cmpi .slt (k (ix2 b s)) 0#32) (IntOp.addi (k (ix2 b s)) 1024#32) (k (ix2 b s)) := rfl
  rw [e, h]
  exact select_nonneg c.val (by have := c.isLt; omega) 1024#32

/-- A position's first index is its batch row, -/
theorem pairs_row (k : IVec S32x2048 32) (b : Fin 32) (s : Fin 2048) : pairs k (ix3 b s 0) = BitVec.ofNat 32 b.val := by
  unfold pairs
  refine (concatenate_pair_apply_left (s₁ := S32x2048x1) (s₂ := S32x2048x1) (t := S32x2048x2) 2 _ _ _ _ rfl (ix3 b s 0) (fun a => ?_)).trans ?_
  · match a with
    | ⟨0, _⟩ => rfl
    | ⟨1, _⟩ => rfl
    | ⟨2, _⟩ => rfl
  · refine (broadcastInDim_apply (s := S32x2048) (t := S32x2048x1) _ _ _ _ (ix2 b s) (fun a => ?_)).trans ?_
    · match a with
      | ⟨0, _⟩ => rfl
      | ⟨1, _⟩ => rfl
    · refine (broadcastInDim_apply (s := S32x1) (t := S32x2048) _ _ _ _ (ix2 b 0) (fun a => ?_)).trans (batchIndex_apply b)
      match a with
      | ⟨0, _⟩ => rfl
      | ⟨1, _⟩ => rfl

/-- and its second its class. -/
theorem pairs_class (k : IVec S32x2048 32) (b : Fin 32) (s : Fin 2048) (c : Fin 1024) (h : k (ix2 b s) = BitVec.ofNat 32 c.val) :
    pairs k (ix3 b s 1) = BitVec.ofNat 32 c.val := by
  unfold pairs
  refine (concatenate_pair_apply_right (s₁ := S32x2048x1) (s₂ := S32x2048x1) (t := S32x2048x2) 2 _ _ _ _ rfl rfl (ix3 b s 0) (fun a ha => ?_) rfl).trans ?_
  · match a with
    | ⟨0, _⟩ => rfl
    | ⟨1, _⟩ => rfl
    | ⟨2, _⟩ => exact absurd rfl ha
  · refine (broadcastInDim_apply (s := S32x2048) (t := S32x2048x1) _ _ _ _ (ix2 b s) (fun a => ?_)).trans (classIndex_apply k b s c h)
    match a with
    | ⟨0, _⟩ => rfl
    | ⟨1, _⟩ => rfl

/-! ## The counts -/

/-- A left fold of additions is the list's sum. -/
theorem foldl_add {β : Type} (g : β → BitVec 32) (L : List β) (a : BitVec 32) :
    L.foldl (fun a n => a + g n) a = a + (L.map g).sum := by
  induction L generalizing a with
  | nil => exact (BitVec.add_zero a).symm
  | cons n L ih => rw [List.foldl_cons, ih, List.map_cons, List.sum_cons, add_assoc]

/-- Adding updates into an array gives each element the sum of the updates that land there. -/
theorem scatter_add {s si u : Shape} (d : ScatterDims s si u) (x : IVec s 32) (idx : IVec si 32) (upd : IVec u 32) (i : s.Idx) :
    Host.scatter d IntOp.addi x idx upd i = x i + ∑ j : u.Idx, if d.resultIdx? j idx = some i then upd j else 0 := by
  unfold Host.scatter
  refine (ScatterToDense.foldl_pointwise _
    (fun a n => a + if d.resultIdx? (u.rowMajor.symm n) idx = some i then upd (u.rowMajor.symm n) else 0) i (fun r n => ?_) _ x).trans ?_
  · generalize d.resultIdx? (u.rowMajor.symm n) idx = o
    cases o with
    | none => rw [if_neg nofun]; exact (add_zero _).symm
    | some k =>
      by_cases h : i = k
      · subst h; rw [if_pos rfl]; exact if_pos rfl
      · rw [if_neg fun e => h (Option.some.inj e).symm]
        exact (if_neg h).trans (add_zero _).symm
  · rw [foldl_add, ← Fin.sum_univ_def]
    exact congrArg (x i + ·) (Equiv.sum_comp u.rowMajor.symm fun j => if d.resultIdx? j idx = some i then upd j else 0)

/-- A position's update lands at a batch row and class exactly when its pair of indices is that row and class. -/
theorem lands (idx : IVec S32x2048x2 32) (b' : Fin 32) (s : Fin 2048) (b : Fin 32) (c : Fin 1024) :
    scatter_S32x1024_S32x2048x2_S32x2048_n_01_01_2.resultIdx? (ix2 b' s) idx = some (ix2 b c)
      ↔ (idx (ix3 b' s 0)).toInt = b.val ∧ (idx (ix3 b' s 1)).toInt = c.val := by
  generalize hd : scatter_S32x1024_S32x2048x2_S32x2048_n_01_01_2 = d
  have hw : ∀ a, d.window (ix2 b' s) a = 0 := fun a => by
    subst hd
    match a with
    | ⟨0, _⟩ => rfl
    | ⟨1, _⟩ => rfl
  have h0 : d.start (ix2 b' s) idx 0 = (idx (ix3 b' s 0)).toInt := by
    subst hd
    refine congrArg (fun i => (idx i).toInt) (funext fun a => Fin.ext ?_)
    match a with
    | ⟨0, _⟩ => rfl
    | ⟨1, _⟩ => rfl
    | ⟨2, _⟩ => rfl
  have h1 : d.start (ix2 b' s) idx 1 = (idx (ix3 b' s 1)).toInt := by
    subst hd
    refine congrArg (fun i => (idx i).toInt) (funext fun a => Fin.ext ?_)
    match a with
    | ⟨0, _⟩ => rfl
    | ⟨1, _⟩ => rfl
    | ⟨2, _⟩ => rfl
  have hb := b.isLt
  have hc := c.isLt
  unfold ScatterDims.resultIdx?
  split
  · next h =>
    have k0 := h 0
    have k1 := h 1
    rw [h0, hw] at k0
    rw [h1, hw] at k1
    constructor
    · intro e
      have e0 := congrArg Fin.val (congrFun (Option.some.inj e) 0)
      have e1 := congrArg Fin.val (congrFun (Option.some.inj e) 1)
      change (d.start (ix2 b' s) idx 0 + (d.window (ix2 b' s) 0 : Int)).toNat = b.val at e0
      change (d.start (ix2 b' s) idx 1 + (d.window (ix2 b' s) 1 : Int)).toNat = c.val at e1
      rw [h0, hw] at e0
      rw [h1, hw] at e1
      omega
    · intro e
      refine congrArg some (funext fun a => Fin.ext ?_)
      match a with
      | ⟨0, _⟩ =>
        show (d.start (ix2 b' s) idx 0 + (d.window (ix2 b' s) 0 : Int)).toNat = b.val
        rw [h0, hw]; omega
      | ⟨1, _⟩ =>
        show (d.start (ix2 b' s) idx 1 + (d.window (ix2 b' s) 1 : Int)).toNat = c.val
        rw [h1, hw]; omega
  · next h =>
    refine ⟨nofun, fun e => absurd (fun a => ?_) h⟩
    match a with
    | ⟨0, _⟩ =>
      show 0 ≤ d.start (ix2 b' s) idx 0 + (d.window (ix2 b' s) 0 : Int) ∧ d.start (ix2 b' s) idx 0 + (d.window (ix2 b' s) 0 : Int) < ((32 : Nat) : Int)
      rw [h0, hw]; omega
    | ⟨1, _⟩ =>
      show 0 ≤ d.start (ix2 b' s) idx 1 + (d.window (ix2 b' s) 1 : Int) ∧ d.start (ix2 b' s) idx 1 + (d.window (ix2 b' s) 1 : Int) < ((1024 : Nat) : Int)
      rw [h1, hw]; omega

/-- The counts are the tallies of first maxima. -/
theorem counts_apply (p : Vec Ideal S32x2048x1024 .f32) (b : Fin 32) (c : Fin 1024) : counts (classes p) (ix2 b c) = tally p b c := by
  have e : ∀ (b' : Fin 32) (s : Fin 2048),
      (if scatter_S32x1024_S32x2048x2_S32x2048_n_01_01_2.resultIdx? (ix2 b' s) (pairs (classes p)) = some (ix2 b c)
        then (broadcastInDim S32x2048 ![] bcast_S_S32x2048 (constantI S_ 32 1#32) : IVec S32x2048 32) (ix2 b' s) else 0)
        = if b' = b then ind (IsFirst (line p b' s) c) else 0 := fun b' s => by
    obtain ⟨f, hf, hk⟩ := classes_first p b' s
    have hr := pairs_row (classes p) b' s
    have hc := pairs_class (classes p) b' s f hk
    have hrow : (BitVec.ofNat 32 b'.val).toInt = (b'.val : Int) := column_toInt ⟨b'.val, by omega⟩
    have hiff := lands (pairs (classes p)) b' s b c
    rw [hr, hc, hrow, column_toInt] at hiff
    by_cases hb : b' = b
    · rw [if_pos hb]
      by_cases hfc : IsFirst (line p b' s) c
      · rw [ind_pos hfc, if_pos (hiff.2 ⟨by rw [hb], by rw [hf.unique hfc]⟩)]; rfl
      · rw [ind_neg hfc, if_neg fun h => hfc ?_]
        · rfl
        · rw [← show f = c from Fin.ext (by have := (hiff.1 h).2; omega)]; exact hf
    · rw [if_neg hb, if_neg fun h => hb (Fin.ext (by have := (hiff.1 h).1; omega))]
  unfold counts
  refine (scatter_add _ _ _ _ _).trans ?_
  rw [sum_idx2]
  simp only [e]
  rw [Finset.sum_eq_single b (fun b' _ h => Finset.sum_eq_zero fun s _ => if_neg h) (fun h => absurd (Finset.mem_univ b) h)]
  refine (zero_add _).trans (Finset.sum_congr rfl fun s _ => if_pos rfl)

/-! ## The sums -/

instance : Subsingleton S_.Idx := ⟨fun a b => funext fun i => i.elim0⟩

/-- The labels' sum, -/
theorem labelSum_apply (l : IVec S32x1024 32) (y : S_.Idx) : labelSum l y = ∑ b : Fin 32, ∑ c : Fin 1023, l (ix2 b c.succ) := by
  unfold labelSum
  refine (host_add_eq_sum _ _ _ _ (fun _ => rfl) y).trans ?_
  rw [sum_idx2]
  refine Finset.sum_congr rfl fun b _ => Finset.sum_congr rfl fun c _ => ?_
  exact extractStridedSlice_apply (s := S32x1024) (t := S32x1023) _ _ _ (ix2 b c) (ix2 b c.succ) fun a => by
    match a with
    | ⟨0, _⟩ => exact (Nat.zero_add _).symm
    | ⟨1, _⟩ => exact Nat.add_comm c.val 1

/-- the sum of what the labels exceed the counts by, -/
theorem missed_apply (l n : IVec S32x1024 32) (y : S_.Idx) :
    missed l n y = ∑ b : Fin 32, ∑ c : Fin 1023, IntOp.maxsi (l (ix2 b c.succ) - n (ix2 b c.succ)) 0#32 := by
  have e : ∀ (v : IVec S32x1024 32) (b : Fin 32) (c : Fin 1023),
      extractStridedSlice S32x1023 ![0, 1] v slices_S32x1024_S32x1023_0_1 (ix2 b c) = v (ix2 b c.succ) := fun v b c =>
    extractStridedSlice_apply (s := S32x1024) (t := S32x1023) _ _ _ (ix2 b c) (ix2 b c.succ) fun a => by
      match a with
      | ⟨0, _⟩ => exact (Nat.zero_add _).symm
      | ⟨1, _⟩ => exact Nat.add_comm c.val 1
  unfold missed
  refine (host_add_eq_sum _ _ _ _ (fun _ => rfl) y).trans ?_
  rw [sum_idx2]
  refine Finset.sum_congr rfl fun b _ => Finset.sum_congr rfl fun c _ => ?_
  rw [← e l, ← e n]
  rfl

/-- and the number of positions whose class is not 0. -/
theorem nonzero_apply (p : Vec Ideal S32x2048x1024 .f32) (y : S_.Idx) : nonzero (classes p) y = denominator (tally p) := by
  have e : ∀ (b : Fin 32) (s : Fin 2048),
      extui 32 (cmpi .ne (classes p) (broadcastInDim S32x2048 ![] bcast_S_S32x2048 (constantI S_ 32 0#32))) natLt_1_32 (ix2 b s)
        = 1#32 - ind (IsFirst (line p b s) 0) := fun b s => by
    obtain ⟨f, hf, hk⟩ := classes_first p b s
    rw [← ind_not]
    refine (setWidth_eq_ind _).trans (ind_congr ?_)
    show BitVec.ofBool (classes p (ix2 b s) != 0#32) = 1#1 ↔ _
    rw [hk]
    by_cases h : f = 0
    · subst h
      exact ⟨fun h => absurd h (by decide), fun h => absurd hf h⟩
    · have hne : BitVec.ofNat 32 f.val ≠ 0#32 := fun e => h (column_inj (d := 0) e)
      refine ⟨fun _ h0 => h (hf.unique h0), fun _ => ?_⟩
      rw [bne_iff_ne.2 hne]; rfl
  unfold nonzero
  refine (host_add_eq_sum _ _ _ _ (fun _ => rfl) y).trans ?_
  rw [sum_idx2]
  simp only [e, Finset.sum_sub_distrib]
  unfold denominator tally
  refine congrArg (· - _) ?_
  rw [Finset.sum_const, Finset.sum_const, Finset.card_univ, Finset.card_univ, Fintype.card_fin, Fintype.card_fin, smul_smul]
  decide

/-! ## The result -/

/-- The reference's result is the quotient of the labels' and tallies' words. -/
theorem answer_apply (p : Vec Ideal S32x2048x1024 .f32) (l : IVec S32x1024 32) (y : S_.Idx) :
    answer p l y = quotient (numerator (fun b c => l (ix2 b c)) (tally p)) (denominator (tally p)) := by
  have e : answer p l y = quotient (labelSum l y - missed l (counts (classes p)) y) (nonzero (classes p) y) := rfl
  rw [e, labelSum_apply, missed_apply, nonzero_apply]
  simp only [counts_apply]
  rfl

end Cert.ReferenceIdeal.Hand

end
-- ==== Proof.lean ====
module

public import proofs.«01_k».proof.Defs
public import proofs.«01_k».proof.Proof.Kernel.Run
public import proofs.«01_k».proof.Proof.KernelIdeal.Value
public import proofs.«01_k».proof.Proof.KernelIdeal.Answer
public import proofs.«01_k».proof.Proof.ReferenceIdeal.Run
public import proofs.«01_k».proof.Proof.ReferenceIdeal.Counts

@[expose] public section

noncomputable section

namespace Cert.Proof

open Idealize.ShloMosaic Idealize.SL.Sem

/-- Kernel and reference return the same value on the same predictions and labels. -/
theorem answer_eq (p : Vec Ideal Cert.KernelIdeal.S32x2048x1024 .f32) (l : IVec Cert.KernelIdeal.S32x1024 32) :
    shapeCast Cert.KernelIdeal.S_ (Cert.KernelIdeal.Hand.answer p l) Cert.KernelIdeal.Gen.shapeCasts_S1x1_S_
      = Cert.ReferenceIdeal.Hand.answer (F := Ideal) p l :=
  funext fun y => (Cert.KernelIdeal.Hand.answer_apply p l _).trans (Cert.ReferenceIdeal.Hand.answer_apply p l y).symm

/-- Everything the certificate claims. -/
theorem claim : Cert.Claim := by
  refine ⟨Cert.Kernel.Gen.facts, Cert.KernelIdeal.Gen.facts, Cert.ReferenceIdeal.Gen.facts, ?_, ?_, ?_, trivial, ?_⟩
  · exact fun m g _ => Cert.Kernel.Hand.frame m g
  · exact fun m g _ => Cert.KernelIdeal.Hand.frame m g
  · exact fun m g _ => (θ_run _ _ _).mono (fun _ h => ⟨fun c => (h.1 c).2, h.2⟩) (Cert.ReferenceIdeal.Hand.run m g)
  · intro m g m' g' _ hm
    refine ⟨_, (θ_run _ _ _).mono (fun _ h => h.1) (Cert.KernelIdeal.Hand.run_value m g),
      (θ_run _ _ _).mono (fun r h c => ⟨(h.1 c).1.trans ?_, (h.1 c).2⟩) (Cert.ReferenceIdeal.Hand.run m' g')⟩
    rw [(hm c).1, (hm c).2]
    exact (answer_eq _ _).symm

end Cert.Proof

end
